-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph [hPre_graph : Cert.Pre_graph.Facts] (m : (ℓ : Loc Cert.KernelIdeal.nD Cert.KernelIdeal.τ Cert.KernelIdeal.sig) → Buf (Elt Ideal) ℓ) : Prop :=
  ∀ c : Dev Cert.KernelIdeal.nD,
    (Cert.Pre_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph [hPre_graph : Cert.Pre_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_graph [hKernelIdeal : Cert.KernelIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_graph [hReferenceIdeal : Cert.ReferenceIdeal.Facts] [hPre_graph : Cert.Pre_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "slope_log2e" .f32 0x3C6C5F04#32 (((5368709 / 536870912) * (Real.log 2)⁻¹ : ℝ) : EReal)

def algebraic_KernelIdeal_ReferenceIdeal_pre_graph [hKernelIdeal : Cert.KernelIdeal.Facts] [hReferenceIdeal : Cert.ReferenceIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_graph : Cert.Pre_graph.Facts),
    quiescent_Kernel (hKernel := hKernel)
    ∧ quiescent_KernelIdeal (hKernelIdeal := hKernelIdeal)
    ∧ quiescent_KernelIdeal_pre_graph (hKernelIdeal := hKernelIdeal) (hPre_graph := hPre_graph)
    ∧ quiescent_ReferenceIdeal (hReferenceIdeal := hReferenceIdeal)
    ∧ quiescent_ReferenceIdeal_pre_graph (hReferenceIdeal := hReferenceIdeal) (hPre_graph := hPre_graph)
    ∧ preserves_Kernel_KernelIdeal
    ∧ algebraic_KernelIdeal_ReferenceIdeal_pre_graph (hKernelIdeal := hKernelIdeal) (hReferenceIdeal := hReferenceIdeal) (hPre_graph := hPre_graph)
-- ==== Pre_graph.lean ====
abbrev S4096x4096 : Shape := ⟨2, ![4096, 4096]⟩
abbrev S4096x128 : Shape := ⟨2, ![4096, 128]⟩
abbrev S128x16 : Shape := ⟨2, ![128, 16]⟩
abbrev S16 : Shape := ⟨1, ![16]⟩
abbrev S4x32 : Shape := ⟨2, ![4, 32]⟩
abbrev S4 : Shape := ⟨1, ![4]⟩
abbrev S64x16 : Shape := ⟨2, ![64, 16]⟩
abbrev S16x1 : Shape := ⟨2, ![16, 1]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x16 : S_.BroadcastsInDim S128x16 (![] : Fin 0 → Fin S128x16.rank)
  reducesTo_S128x16_S_d0_1 : S128x16.ReducesTo [0, 1] S_
  bcast_S_S4x32 : S_.BroadcastsInDim S4x32 (![] : Fin 0 → Fin S4x32.rank)
  reducesTo_S4x32_S_d0_1 : S4x32.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg6 : FVec F S64x16 .f32) (main_arg8 : FVec F S4x32 .f32) (main_v5 : IVec S_ 1) (main_v14 : IVec S_ 1) (main_v15 : FVec F S4x32 .f32) (main_cst_5 : FVec F S_ .f32) : IVec S_ 1 :=
  let main_v16 : FVec F S4x32 .f32 := broadcastInDim S4x32 ![] bcast_S_S4x32 main_cst_5
  let main_v17 : IVec S4x32 1 := cmpf .olt main_v15 main_v16
  let main_c_6 : IVec S_ 1 := constantI S_ 1 1#1
  let main_v18 : IVec S_ 1 := (fun x v => Host.reduce IntOp.andi x v reducesTo_S4x32_S_d0_1 h_S_) main_v17 main_c_6
  let main_v19 : IVec S_ 1 := andi main_v14 main_v18
  let main_v20 : FVec F S64x16 .f32 := Host.absf main_arg6
  let main_cst_7 : FVec F S_ .f32 := constant S_ .f32 0x7F800000#32
  let main_v21 : FVec F S64x16 .f32 := broadcastInDim S64x16 ![] bcast_S_S64x16 main_cst_7
  let main_v22 : IVec S64x16 1 := cmpf .olt main_v20 main_v21
  let main_c_8 : IVec S_ 1 := constantI S_ 1 1#1
  let main_v23 : IVec S_ 1 := (fun x v => Host.reduce IntOp.andi x v reducesTo_S64x16_S_d0_1 h_S_) main_v22 main_c_8
  let main_v24 : IVec S_ 1 := andi main_v19 main_v23
  let main_v25 : FVec F S4x32 .f32 := Host.absf main_arg8
  let main_cst_9 : FVec F S_ .f32 := constant S_ .f32 0x7F800000#32
  let main_v26 : FVec F S4x32 .f32 := broadcastInDim S4x32 ![] bcast_S_S4x32 main_cst_9
  let main_v27 : IVec S4x32 1 := cmpf .olt main_v25 main_v26
  let main_c_10 : IVec S_ 1 := constantI S_ 1 1#1
  let main_v28 : IVec S_ 1 := (fun x v => Host.reduce IntOp.andi x v reducesTo_S4x32_S_d0_1 h_S_) main_v27 main_c_10
  let main_v29 : IVec S_ 1 := andi main_v24 main_v28
  let main_v30 : IVec S_ 1 := andi main_v5 main_v29
  main_v30

def fn {F : FTy → Type} [FloatOps F] (main_arg0 : FVec F S4096x4096 .f32) (main_arg1 : FVec F S4096x128 .f32) (main_arg2 : FVec F S128x16 .f32) (main_arg3 : FVec F S16 .f32) (main_arg4 : FVec F S4x32 .f32) (main_arg5 : FVec F S4 .f32) (main_arg6 : FVec F S64x16 .f32) (main_arg7 : FVec F S16 .f32) (main_arg8 : FVec F S4x32 .f32) (main_arg9 : FVec F S4 .f32) (main_arg10 : FVec F S16x1 .f32) (main_arg11 : FVec F S1 .f32) : IVec S_ 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oeq main_arg0 main_v0
  let main_cst_0 : FVec F S_ .f32 := constant S_ .f32 0x3F800000#32
  let main_v2 : FVec F S4096x4096 .f32 := broadcastInDim S4096x4096 ![] bcast_S_S4096x4096 main_cst_0
  let main_v3 : IVec S4096x4096 1 := cmpf .oeq main_arg0 main_v2
  let main_v4 : IVec S4096x4096 1 := ori main_v1 main_v3
  let main_c : IVec S_ 1 := constantI S_ 1 1#1
  let main_v5 : IVec S_ 1 := (fun x v => Host.reduce IntOp.andi x v reducesTo_S4096x4096_S_d0_1 h_S_) main_v4 main_c
  let main_v6 : FVec F S4096x128 .f32 := Host.absf main_arg1
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_c_2 : IVec S_ 1 := constantI S_ 1 1#1
  let main_v9 : IVec S_ 1 := (fun x v => Host.reduce IntOp.andi x v reducesTo_S4096x128_S_d0_1 h_S_) main_v8 main_c_2
  let main_v10 : FVec F S128x16 .f32 := Host.absf main_arg2
  let main_cst_3 : FVec F S_ .f32 := constant S_ .f32 0x7F800000#32
  let main_v11 : FVec F S128x16 .f32 := broadcastInDim S128x16 ![] bcast_S_S128x16 main_cst_3
  let main_v12 : IVec S128x16 1 := cmpf .olt main_v10 main_v11
  let main_c_4 : IVec S_ 1 := constantI S_ 1 1#1
  let main_v13 : IVec S_ 1 := (fun x v => Host.reduce IntOp.andi x v reducesTo_S128x16_S_d0_1 h_S_) main_v12 main_c_4
  let main_v14 : IVec S_ 1 := andi main_v9 main_v13
  let main_v15 : FVec F S4x32 .f32 := Host.absf main_arg4
  let main_cst_5 : FVec F S_ .f32 := constant S_ .f32 0x7F800000#32
  fn_part1 (F := F) main_arg6 main_arg8 main_v5 main_v14 main_v15 main_cst_5
-- ==== Kernel.lean ====
abbrev S4096x4096 : Shape := ⟨2, ![4096, 4096]⟩
abbrev S4096x128 : Shape := ⟨2, ![4096, 128]⟩
abbrev S128x16 : Shape := ⟨2, ![128, 16]⟩
abbrev S16 : Shape := ⟨1, ![16]⟩
abbrev S4x32 : Shape := ⟨2, ![4, 32]⟩
abbrev S4 : Shape := ⟨1, ![4]⟩
abbrev S64x16 : Shape := ⟨2, ![64, 16]⟩
abbrev S16x1 : Shape := ⟨2, ![16, 1]⟩
abbrev S1 : Shape := ⟨1, ![1]⟩
abbrev S1x16 : Shape := ⟨2, ![1, 16]⟩
abbrev S4096x16 : Shape := ⟨2, ![4096, 16]⟩
abbrev S16x4096 : Shape := ⟨2, ![16, 4096]⟩
abbrev S512x4096 : Shape := ⟨2, ![512, 4096]⟩
abbrev S512x16 : Shape := ⟨2, ![512, 16]⟩
abbrev S16x512 : Shape := ⟨2, ![16, 512]⟩
abbrev S512x128 : Shape := ⟨2, ![512, 128]⟩
abbrev S4x16 : Shape := ⟨2, ![4, 16]⟩
abbrev S16x4 : Shape := ⟨2, ![16, 4]⟩
abbrev S1x4 : Shape := ⟨2, ![1, 4]⟩
abbrev S512x4 : Shape := ⟨2, ![512, 4]⟩
abbrev S4x4096 : Shape := ⟨2, ![4, 4096]⟩
abbrev S1x4096 : Shape := ⟨2, ![1, 4096]⟩
abbrev S1x1x4096 : Shape := ⟨3, ![1, 1, 4096]⟩
abbrev S1x1x1 : Shape := ⟨3, ![1, 1, 1]⟩
abbrev S512x1 : Shape := ⟨2, ![512, 1]⟩
abbrev S512 : Shape := ⟨1, ![512]⟩
abbrev S512x64 : Shape := ⟨2, ![512, 64]⟩
abbrev S1x1 : Shape := ⟨2, ![1, 1]⟩
abbrev S_ : Shape := ⟨0, ![]⟩

abbrev nBuf : Space → Nat
  | .hbm => 32
  | .vmem => 38
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S128x16, .f32⟩
  | .hbm, ⟨3, _⟩ => ⟨S16, .f32⟩
  | .hbm, ⟨4, _⟩ => ⟨S4x32, .f32⟩
  | .hbm, ⟨5, _⟩ => ⟨S4, .f32⟩
  | .hbm, ⟨6, _⟩ => ⟨S64x16, .f32⟩
  | .hbm, ⟨7, _⟩ => ⟨S16, .f32⟩
  | .hbm, ⟨8, _⟩ => ⟨S4x32, .f32⟩
  | .hbm, ⟨9, _⟩ => ⟨S4, .f32⟩
  | .hbm, ⟨10, _⟩ => ⟨S16x1, .f32⟩
  | .hbm, ⟨11, _⟩ => ⟨S1, .f32⟩
  | .hbm, ⟨12, _⟩ => ⟨S1x16, .f32⟩
  | .hbm, ⟨13, _⟩ => ⟨S4096x16, .f32⟩
  | .hbm, ⟨14, _⟩ => ⟨S16x4096, .f32⟩
  | .hbm, ⟨15, _⟩ => ⟨S4x16, .f32⟩
  | .hbm, ⟨16, _⟩ => ⟨S16x4, .f32⟩
  | .hbm, ⟨17, _⟩ => ⟨S4x16, .f32⟩
  | .hbm, ⟨18, _⟩ => ⟨S1x4, .f32⟩
  | .hbm, ⟨19, _⟩ => ⟨S1x16, .f32⟩
  | .hbm, ⟨20, _⟩ => ⟨S4096x16, .f32⟩
  | .hbm, ⟨21, _⟩ => ⟨S16x4096, .f32⟩
  | .hbm, ⟨22, _⟩ => ⟨S4x16, .f32⟩
  | .hbm, ⟨23, _⟩ => ⟨S16x4, .f32⟩
  | .hbm, ⟨24, _⟩ => ⟨S4x16, .f32⟩
  | .hbm, ⟨25, _⟩ => ⟨S1x4, .f32⟩
  | .hbm, ⟨26, _⟩ => ⟨S1x16, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S1, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S128x16, .f32⟩
  | .local _ .vmem, ⟨4, _⟩ => ⟨S1x16, .f32⟩
  | .local _ .vmem, ⟨5, _⟩ => ⟨S512x16, .f32⟩
  | .local _ .vmem, ⟨6, _⟩ => ⟨S512x16, .f32⟩
  | .local _ .vmem, ⟨7, _⟩ => ⟨S16x512, .f32⟩
  | .local _ .vmem, ⟨8, _⟩ => ⟨S16x512, .f32⟩
  | .local _ .vmem, ⟨9, _⟩ => ⟨S512x4096, .f32⟩
  | .local _ .vmem, ⟨10, _⟩ => ⟨S512x4096, .f32⟩
  | .local _ .vmem, ⟨11, _⟩ => ⟨S4096x16, .f32⟩
  | .local _ .vmem, ⟨12, _⟩ => ⟨S512x16, .f32⟩
  | .local _ .vmem, ⟨13, _⟩ => ⟨S512x16, .f32⟩
  | .local _ .vmem, ⟨14, _⟩ => ⟨S16x4096, .f32⟩
  | .local _ .vmem, ⟨15, _⟩ => ⟨S16x4, .f32⟩
  | .local _ .vmem, ⟨16, _⟩ => ⟨S4x16, .f32⟩
  | .local _ .vmem, ⟨17, _⟩ => ⟨S1x4, .f32⟩
  | .local _ .vmem, ⟨18, _⟩ => ⟨S64x16, .f32⟩
  | .local _ .vmem, ⟨19, _⟩ => ⟨S1x16, .f32⟩
  | .local _ .vmem, ⟨20, _⟩ => ⟨S512x16, .f32⟩
  | .local _ .vmem, ⟨21, _⟩ => ⟨S512x16, .f32⟩
  | .local _ .vmem, ⟨22, _⟩ => ⟨S16x512, .f32⟩
  | .local _ .vmem, ⟨23, _⟩ => ⟨S16x512, .f32⟩
  | .local _ .vmem, ⟨24, _⟩ => ⟨S512x4096, .f32⟩
  | .local _ .vmem, ⟨25, _⟩ => ⟨S512x4096, .f32⟩
  | .local _ .vmem, ⟨26, _⟩ => ⟨S4096x16, .f32⟩
  | .local _ .vmem, ⟨27, _⟩ => ⟨S512x16, .f32⟩
  | .local _ .vmem, ⟨28, _⟩ => ⟨S512x16, .f32⟩
  | .local _ .vmem, ⟨29, _⟩ => ⟨S16x4096, .f32⟩
  | .local _ .vmem, ⟨30, _⟩ => ⟨S16x4, .f32⟩
  | .local _ .vmem, ⟨31, _⟩ => ⟨S4x16, .f32⟩
  | .local _ .vmem, ⟨32, _⟩ => ⟨S1x4, .f32⟩
  | .local _ .vmem, ⟨33, _⟩ => ⟨S1x16, .f32⟩
  | .local _ .vmem, ⟨34, _⟩ => ⟨S1x1, .f32⟩
  | .local _ .vmem, ⟨35, _⟩ => ⟨S1x1, .f32⟩
  | .local _ .vmem, ⟨36, _⟩ => ⟨S1x1, .f32⟩
  | .local _ .vmem, ⟨37, _⟩ => ⟨S1x16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S16x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v226 : BitVec 1 := Scalar.cmpi .eq arg0 c7_i32
  let v227 : BitVec 32 := Scalar.extui v226
  let c0_i32_75 : BitVec 32 := 0#32
  let v228 : BitVec 1 := Scalar.cmpi .ne v227 c0_i32_75
  v228

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== KernelIdeal.lean ====
variable {F : FTy → Type} [FloatOps F] [Named F]
def κ : String → Option EReal := fun
  | "log2e" => some (((Real.log 2)⁻¹ : ℝ) : EReal)
  | "slope_log2e" => some (((5368709 / 536870912) * (Real.log 2)⁻¹ : ℝ) : EReal)
  | _ => none
-- ==== ReferenceIdeal.lean ====
abbrev S4096x4096 : Shape := ⟨2, ![4096, 4096]⟩
abbrev S4096x128 : Shape := ⟨2, ![4096, 128]⟩
abbrev S128x16 : Shape := ⟨2, ![128, 16]⟩
abbrev S16 : Shape := ⟨1, ![16]⟩
abbrev S4x32 : Shape := ⟨2, ![4, 32]⟩
abbrev S4 : Shape := ⟨1, ![4]⟩
abbrev S64x16 : Shape := ⟨2, ![64, 16]⟩
abbrev S16x1 : Shape := ⟨2, ![16, 1]⟩
abbrev S1 : Shape := ⟨1, ![1]⟩
abbrev S4096x16 : Shape := ⟨2, ![4096, 16]⟩
abbrev S1x16 : Shape := ⟨2, ![1, 16]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x64 : Shape := ⟨2, ![4096, 64]⟩

abbrev nBuf : Space → Nat
  | .hbm => 508
  | .vmem => 0
  | .smem => 0
  | _ => 0

abbrev hbmTy0_0 (i : Nat) : BufTy := match i % 128 with
  | 0 => ⟨S4096x4096, .f32⟩
  | 1 => ⟨S4096x128, .f32⟩
  | 2 => ⟨S128x16, .f32⟩
  | 3 => ⟨S16, .f32⟩
  | 4 => ⟨S4x32, .f32⟩
  | 5 => ⟨S4, .f32⟩
  | 6 => ⟨S64x16, .f32⟩
  | 7 => ⟨S16, .f32⟩
  | 8 => ⟨S4x32, .f32⟩
  | 9 => ⟨S4, .f32⟩
  | 10 => ⟨S16x1, .f32⟩
  | 11 => ⟨S1, .f32⟩
  | 12 => ⟨S4096x128, .f32⟩
  | 13 => ⟨S4096x16, .f32⟩
  | 14 => ⟨S1x16, .f32⟩
  | 15 => ⟨S4096x16, .f32⟩
  | 16 => ⟨S4096x16, .f32⟩
  | 17 => ⟨S_, .f32⟩
  | 18 => ⟨S4096x4096, .f32⟩
  | 19 => ⟨S4096x4096, .i1⟩
  | 20 => ⟨S4096x4096, .i32⟩
  | 21 => ⟨S_, .i32⟩
  | 22 => ⟨S4096, .i32⟩
  | 23 => ⟨S1x16, .f32⟩
  | 24 => ⟨S16, .f32⟩
  | 25 => ⟨S4096, .f32⟩
  | 26 => ⟨S1x16, .f32⟩
  | 27 => ⟨S16, .f32⟩
  | 28 => ⟨S4096, .f32⟩
  | 29 => ⟨S4096x1, .f32⟩
  | 30 => ⟨S1x4096, .f32⟩
  | 31 => ⟨S4096x4096, .f32⟩
  | 32 => ⟨S4096x4096, .f32⟩
  | 33 => ⟨S4096x4096, .f32⟩
  | 34 => ⟨S1, .f32⟩
  | 35 => ⟨S_, .f32⟩
  | 36 => ⟨S4096x4096, .f32⟩
  | 37 => ⟨S4096x4096, .f32⟩
  | 38 => ⟨S_, .f32⟩
  | 39 => ⟨S4096x4096, .f32⟩
  | 40 => ⟨S4096x4096, .i1⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S_, .f32⟩
  | 47 => ⟨S4096x4096, .f32⟩
  | 48 => ⟨S4096x4096, .f32⟩
  | 49 => ⟨S_, .f32⟩
  | 50 => ⟨S4096, .f32⟩
  | 51 => ⟨S4096x1, .f32⟩
  | 52 => ⟨S4096x4096, .f32⟩
  | 53 => ⟨S4096x4096, .f32⟩
  | 54 => ⟨S4096x4096, .f32⟩
  | 55 => ⟨S_, .f32⟩
  | 56 => ⟨S_, .f32⟩
  | 57 => ⟨S4096x4096, .f32⟩
  | 58 => ⟨S4096x4096, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .i1⟩
  | 65 => ⟨S_, .f32⟩
  | 66 => ⟨S_, .f32⟩
  | 67 => ⟨S4096x1, .f32⟩
  | 68 => ⟨S4096x1, .f32⟩
  | 69 => ⟨S4096x4096, .f32⟩
  | 70 => ⟨S4096x4096, .f32⟩
  | 71 => ⟨S4096x16, .f32⟩
  | 72 => ⟨S4096x1, .i32⟩
  | 73 => ⟨S_, .i32⟩
  | 74 => ⟨S4096x1, .i32⟩
  | 75 => ⟨S4096x1, .i1⟩
  | 76 => ⟨S4096x16, .f32⟩
  | 77 => ⟨S4096x16, .i1⟩
  | 78 => ⟨S4096x16, .f32⟩
  | 79 => ⟨S1x16, .f32⟩
  | 80 => ⟨S16, .f32⟩
  | 81 => ⟨S4096, .f32⟩
  | 82 => ⟨S1x16, .f32⟩
  | 83 => ⟨S16, .f32⟩
  | 84 => ⟨S4096, .f32⟩
  | 85 => ⟨S4096x1, .f32⟩
  | 86 => ⟨S1x4096, .f32⟩
  | 87 => ⟨S4096x4096, .f32⟩
  | 88 => ⟨S4096x4096, .f32⟩
  | 89 => ⟨S4096x4096, .f32⟩
  | 90 => ⟨S1, .f32⟩
  | 91 => ⟨S_, .f32⟩
  | 92 => ⟨S4096x4096, .f32⟩
  | 93 => ⟨S4096x4096, .f32⟩
  | 94 => ⟨S_, .f32⟩
  | 95 => ⟨S4096x4096, .f32⟩
  | 96 => ⟨S4096x4096, .i1⟩
  | 97 => ⟨S_, .f32⟩
  | 98 => ⟨S4096x4096, .f32⟩
  | 99 => ⟨S4096x4096, .f32⟩
  | 100 => ⟨S4096x4096, .f32⟩
  | 101 => ⟨S_, .f32⟩
  | 102 => ⟨S_, .f32⟩
  | 103 => ⟨S4096x4096, .f32⟩
  | 104 => ⟨S4096x4096, .f32⟩
  | 105 => ⟨S_, .f32⟩
  | 106 => ⟨S4096, .f32⟩
  | 107 => ⟨S4096x1, .f32⟩
  | 108 => ⟨S4096x4096, .f32⟩
  | 109 => ⟨S4096x4096, .f32⟩
  | 110 => ⟨S4096x4096, .f32⟩
  | 111 => ⟨S_, .f32⟩
  | 112 => ⟨S_, .f32⟩
  | 113 => ⟨S4096x4096, .f32⟩
  | 114 => ⟨S4096x4096, .f32⟩
  | 115 => ⟨S_, .f32⟩
  | 116 => ⟨S4096, .f32⟩
  | 117 => ⟨S4096x1, .f32⟩
  | 118 => ⟨S_, .f32⟩
  | 119 => ⟨S4096x1, .f32⟩
  | 120 => ⟨S4096x1, .i1⟩
  | 121 => ⟨S_, .f32⟩
  | 122 => ⟨S_, .f32⟩
  | 123 => ⟨S4096x1, .f32⟩
  | 124 => ⟨S4096x1, .f32⟩
  | 125 => ⟨S4096x4096, .f32⟩
  | 126 => ⟨S4096x4096, .f32⟩
  | 127 => ⟨S4096x16, .f32⟩
  | _ => ⟨S4096x4096, .f32⟩

abbrev hbmTy0_1 (i : Nat) : BufTy := match i % 128 with
  | 0 => ⟨S4096x1, .i32⟩
  | 1 => ⟨S_, .i32⟩
  | 2 => ⟨S4096x1, .i32⟩
  | 3 => ⟨S4096x1, .i1⟩
  | 4 => ⟨S4096x16, .f32⟩
  | 5 => ⟨S4096x16, .i1⟩
  | 6 => ⟨S4096x16, .f32⟩
  | 7 => ⟨S1x16, .f32⟩
  | 8 => ⟨S16, .f32⟩
  | 9 => ⟨S4096, .f32⟩
  | 10 => ⟨S1x16, .f32⟩
  | 11 => ⟨S16, .f32⟩
  | 12 => ⟨S4096, .f32⟩
  | 13 => ⟨S4096x1, .f32⟩
  | 14 => ⟨S1x4096, .f32⟩
  | 15 => ⟨S4096x4096, .f32⟩
  | 16 => ⟨S4096x4096, .f32⟩
  | 17 => ⟨S4096x4096, .f32⟩
  | 18 => ⟨S1, .f32⟩
  | 19 => ⟨S_, .f32⟩
  | 20 => ⟨S4096x4096, .f32⟩
  | 21 => ⟨S4096x4096, .f32⟩
  | 22 => ⟨S_, .f32⟩
  | 23 => ⟨S4096x4096, .f32⟩
  | 24 => ⟨S4096x4096, .i1⟩
  | 25 => ⟨S_, .f32⟩
  | 26 => ⟨S4096x4096, .f32⟩
  | 27 => ⟨S4096x4096, .f32⟩
  | 28 => ⟨S4096x4096, .f32⟩
  | 29 => ⟨S_, .f32⟩
  | 30 => ⟨S_, .f32⟩
  | 31 => ⟨S4096x4096, .f32⟩
  | 32 => ⟨S4096x4096, .f32⟩
  | 33 => ⟨S_, .f32⟩
  | 34 => ⟨S4096, .f32⟩
  | 35 => ⟨S4096x1, .f32⟩
  | 36 => ⟨S4096x4096, .f32⟩
  | 37 => ⟨S4096x4096, .f32⟩
  | 38 => ⟨S4096x4096, .f32⟩
  | 39 => ⟨S_, .f32⟩
  | 40 => ⟨S_, .f32⟩
  | 41 => ⟨S4096x4096, .f32⟩
  | 42 => ⟨S4096x4096, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .i1⟩
  | 49 => ⟨S_, .f32⟩
  | 50 => ⟨S_, .f32⟩
  | 51 => ⟨S4096x1, .f32⟩
  | 52 => ⟨S4096x1, .f32⟩
  | 53 => ⟨S4096x4096, .f32⟩
  | 54 => ⟨S4096x4096, .f32⟩
  | 55 => ⟨S4096x16, .f32⟩
  | 56 => ⟨S4096x1, .i32⟩
  | 57 => ⟨S_, .i32⟩
  | 58 => ⟨S4096x1, .i32⟩
  | 59 => ⟨S4096x1, .i1⟩
  | 60 => ⟨S4096x16, .f32⟩
  | 61 => ⟨S4096x16, .i1⟩
  | 62 => ⟨S4096x16, .f32⟩
  | 63 => ⟨S1x16, .f32⟩
  | 64 => ⟨S16, .f32⟩
  | 65 => ⟨S4096, .f32⟩
  | 66 => ⟨S1x16, .f32⟩
  | 67 => ⟨S16, .f32⟩
  | 68 => ⟨S4096, .f32⟩
  | 69 => ⟨S4096x1, .f32⟩
  | 70 => ⟨S1x4096, .f32⟩
  | 71 => ⟨S4096x4096, .f32⟩
  | 72 => ⟨S4096x4096, .f32⟩
  | 73 => ⟨S4096x4096, .f32⟩
  | 74 => ⟨S1, .f32⟩
  | 75 => ⟨S_, .f32⟩
  | 76 => ⟨S4096x4096, .f32⟩
  | 77 => ⟨S4096x4096, .f32⟩
  | 78 => ⟨S_, .f32⟩
  | 79 => ⟨S4096x4096, .f32⟩
  | 80 => ⟨S4096x4096, .i1⟩
  | 81 => ⟨S_, .f32⟩
  | 82 => ⟨S4096x4096, .f32⟩
  | 83 => ⟨S4096x4096, .f32⟩
  | 84 => ⟨S4096x4096, .f32⟩
  | 85 => ⟨S_, .f32⟩
  | 86 => ⟨S_, .f32⟩
  | 87 => ⟨S4096x4096, .f32⟩
  | 88 => ⟨S4096x4096, .f32⟩
  | 89 => ⟨S_, .f32⟩
  | 90 => ⟨S4096, .f32⟩
  | 91 => ⟨S4096x1, .f32⟩
  | 92 => ⟨S4096x4096, .f32⟩
  | 93 => ⟨S4096x4096, .f32⟩
  | 94 => ⟨S4096x4096, .f32⟩
  | 95 => ⟨S_, .f32⟩
  | 96 => ⟨S_, .f32⟩
  | 97 => ⟨S4096x4096, .f32⟩
  | 98 => ⟨S4096x4096, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .i1⟩
  | 105 => ⟨S_, .f32⟩
  | 106 => ⟨S_, .f32⟩
  | 107 => ⟨S4096x1, .f32⟩
  | 108 => ⟨S4096x1, .f32⟩
  | 109 => ⟨S4096x4096, .f32⟩
  | 110 => ⟨S4096x4096, .f32⟩
  | 111 => ⟨S4096x16, .f32⟩
  | 112 => ⟨S4096x1, .i32⟩
  | 113 => ⟨S_, .i32⟩
  | 114 => ⟨S4096x1, .i32⟩
  | 115 => ⟨S4096x1, .i1⟩
  | 116 => ⟨S4096x16, .f32⟩
  | 117 => ⟨S4096x16, .i1⟩
  | 118 => ⟨S4096x16, .f32⟩
  | 119 => ⟨S4096x64, .f32⟩
  | 120 => ⟨S_, .f32⟩
  | 121 => ⟨S4096x64, .f32⟩
  | 122 => ⟨S4096x64, .i1⟩
  | 123 => ⟨S4096x64, .f32⟩
  | 124 => ⟨S4096x64, .f32⟩
  | 125 => ⟨S4096x16, .f32⟩
  | 126 => ⟨S1x16, .f32⟩
  | 127 => ⟨S4096x16, .f32⟩
  | _ => ⟨S4096x4096, .f32⟩

abbrev hbmTy0_2 (i : Nat) : BufTy := match i % 128 with
  | 0 => ⟨S4096x16, .f32⟩
  | 1 => ⟨S_, .f32⟩
  | 2 => ⟨S4096x4096, .f32⟩
  | 3 => ⟨S4096x4096, .i1⟩
  | 4 => ⟨S4096x4096, .i32⟩
  | 5 => ⟨S_, .i32⟩
  | 6 => ⟨S4096, .i32⟩
  | 7 => ⟨S1x16, .f32⟩
  | 8 => ⟨S16, .f32⟩
  | 9 => ⟨S4096, .f32⟩
  | 10 => ⟨S1x16, .f32⟩
  | 11 => ⟨S16, .f32⟩
  | 12 => ⟨S4096, .f32⟩
  | 13 => ⟨S4096x1, .f32⟩
  | 14 => ⟨S1x4096, .f32⟩
  | 15 => ⟨S4096x4096, .f32⟩
  | 16 => ⟨S4096x4096, .f32⟩
  | 17 => ⟨S4096x4096, .f32⟩
  | 18 => ⟨S1, .f32⟩
  | 19 => ⟨S_, .f32⟩
  | 20 => ⟨S4096x4096, .f32⟩
  | 21 => ⟨S4096x4096, .f32⟩
  | 22 => ⟨S_, .f32⟩
  | 23 => ⟨S4096x4096, .f32⟩
  | 24 => ⟨S4096x4096, .i1⟩
  | 25 => ⟨S_, .f32⟩
  | 26 => ⟨S4096x4096, .f32⟩
  | 27 => ⟨S4096x4096, .f32⟩
  | 28 => ⟨S4096x4096, .f32⟩
  | 29 => ⟨S_, .f32⟩
  | 30 => ⟨S_, .f32⟩
  | 31 => ⟨S4096x4096, .f32⟩
  | 32 => ⟨S4096x4096, .f32⟩
  | 33 => ⟨S_, .f32⟩
  | 34 => ⟨S4096, .f32⟩
  | 35 => ⟨S4096x1, .f32⟩
  | 36 => ⟨S4096x4096, .f32⟩
  | 37 => ⟨S4096x4096, .f32⟩
  | 38 => ⟨S4096x4096, .f32⟩
  | 39 => ⟨S_, .f32⟩
  | 40 => ⟨S_, .f32⟩
  | 41 => ⟨S4096x4096, .f32⟩
  | 42 => ⟨S4096x4096, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .i1⟩
  | 49 => ⟨S_, .f32⟩
  | 50 => ⟨S_, .f32⟩
  | 51 => ⟨S4096x1, .f32⟩
  | 52 => ⟨S4096x1, .f32⟩
  | 53 => ⟨S4096x4096, .f32⟩
  | 54 => ⟨S4096x4096, .f32⟩
  | 55 => ⟨S4096x16, .f32⟩
  | 56 => ⟨S4096x1, .i32⟩
  | 57 => ⟨S_, .i32⟩
  | 58 => ⟨S4096x1, .i32⟩
  | 59 => ⟨S4096x1, .i1⟩
  | 60 => ⟨S4096x16, .f32⟩
  | 61 => ⟨S4096x16, .i1⟩
  | 62 => ⟨S4096x16, .f32⟩
  | 63 => ⟨S1x16, .f32⟩
  | 64 => ⟨S16, .f32⟩
  | 65 => ⟨S4096, .f32⟩
  | 66 => ⟨S1x16, .f32⟩
  | 67 => ⟨S16, .f32⟩
  | 68 => ⟨S4096, .f32⟩
  | 69 => ⟨S4096x1, .f32⟩
  | 70 => ⟨S1x4096, .f32⟩
  | 71 => ⟨S4096x4096, .f32⟩
  | 72 => ⟨S4096x4096, .f32⟩
  | 73 => ⟨S4096x4096, .f32⟩
  | 74 => ⟨S1, .f32⟩
  | 75 => ⟨S_, .f32⟩
  | 76 => ⟨S4096x4096, .f32⟩
  | 77 => ⟨S4096x4096, .f32⟩
  | 78 => ⟨S_, .f32⟩
  | 79 => ⟨S4096x4096, .f32⟩
  | 80 => ⟨S4096x4096, .i1⟩
  | 81 => ⟨S_, .f32⟩
  | 82 => ⟨S4096x4096, .f32⟩
  | 83 => ⟨S4096x4096, .f32⟩
  | 84 => ⟨S4096x4096, .f32⟩
  | 85 => ⟨S_, .f32⟩
  | 86 => ⟨S_, .f32⟩
  | 87 => ⟨S4096x4096, .f32⟩
  | 88 => ⟨S4096x4096, .f32⟩
  | 89 => ⟨S_, .f32⟩
  | 90 => ⟨S4096, .f32⟩
  | 91 => ⟨S4096x1, .f32⟩
  | 92 => ⟨S4096x4096, .f32⟩
  | 93 => ⟨S4096x4096, .f32⟩
  | 94 => ⟨S4096x4096, .f32⟩
  | 95 => ⟨S_, .f32⟩
  | 96 => ⟨S_, .f32⟩
  | 97 => ⟨S4096x4096, .f32⟩
  | 98 => ⟨S4096x4096, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .i1⟩
  | 105 => ⟨S_, .f32⟩
  | 106 => ⟨S_, .f32⟩
  | 107 => ⟨S4096x1, .f32⟩
  | 108 => ⟨S4096x1, .f32⟩
  | 109 => ⟨S4096x4096, .f32⟩
  | 110 => ⟨S4096x4096, .f32⟩
  | 111 => ⟨S4096x16, .f32⟩
  | 112 => ⟨S4096x1, .i32⟩
  | 113 => ⟨S_, .i32⟩
  | 114 => ⟨S4096x1, .i32⟩
  | 115 => ⟨S4096x1, .i1⟩
  | 116 => ⟨S4096x16, .f32⟩
  | 117 => ⟨S4096x16, .i1⟩
  | 118 => ⟨S4096x16, .f32⟩
  | 119 => ⟨S1x16, .f32⟩
  | 120 => ⟨S16, .f32⟩
  | 121 => ⟨S4096, .f32⟩
  | 122 => ⟨S1x16, .f32⟩
  | 123 => ⟨S16, .f32⟩
  | 124 => ⟨S4096, .f32⟩
  | 125 => ⟨S4096x1, .f32⟩
  | 126 => ⟨S1x4096, .f32⟩
  | 127 => ⟨S4096x4096, .f32⟩
  | _ => ⟨S4096x4096, .f32⟩

abbrev hbmTy0_3 (i : Nat) : BufTy := match i % 128 with
  | 0 => ⟨S4096x4096, .f32⟩
  | 1 => ⟨S4096x4096, .f32⟩
  | 2 => ⟨S1, .f32⟩
  | 3 => ⟨S_, .f32⟩
  | 4 => ⟨S4096x4096, .f32⟩
  | 5 => ⟨S4096x4096, .f32⟩
  | 6 => ⟨S_, .f32⟩
  | 7 => ⟨S4096x4096, .f32⟩
  | 8 => ⟨S4096x4096, .i1⟩
  | 9 => ⟨S_, .f32⟩
  | 10 => ⟨S4096x4096, .f32⟩
  | 11 => ⟨S4096x4096, .f32⟩
  | 12 => ⟨S4096x4096, .f32⟩
  | 13 => ⟨S_, .f32⟩
  | 14 => ⟨S_, .f32⟩
  | 15 => ⟨S4096x4096, .f32⟩
  | 16 => ⟨S4096x4096, .f32⟩
  | 17 => ⟨S_, .f32⟩
  | 18 => ⟨S4096, .f32⟩
  | 19 => ⟨S4096x1, .f32⟩
  | 20 => ⟨S4096x4096, .f32⟩
  | 21 => ⟨S4096x4096, .f32⟩
  | 22 => ⟨S4096x4096, .f32⟩
  | 23 => ⟨S_, .f32⟩
  | 24 => ⟨S_, .f32⟩
  | 25 => ⟨S4096x4096, .f32⟩
  | 26 => ⟨S4096x4096, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .i1⟩
  | 33 => ⟨S_, .f32⟩
  | 34 => ⟨S_, .f32⟩
  | 35 => ⟨S4096x1, .f32⟩
  | 36 => ⟨S4096x1, .f32⟩
  | 37 => ⟨S4096x4096, .f32⟩
  | 38 => ⟨S4096x4096, .f32⟩
  | 39 => ⟨S4096x16, .f32⟩
  | 40 => ⟨S4096x1, .i32⟩
  | 41 => ⟨S_, .i32⟩
  | 42 => ⟨S4096x1, .i32⟩
  | 43 => ⟨S4096x1, .i1⟩
  | 44 => ⟨S4096x16, .f32⟩
  | 45 => ⟨S4096x16, .i1⟩
  | 46 => ⟨S4096x16, .f32⟩
  | 47 => ⟨S1x16, .f32⟩
  | 48 => ⟨S16, .f32⟩
  | 49 => ⟨S4096, .f32⟩
  | 50 => ⟨S1x16, .f32⟩
  | 51 => ⟨S16, .f32⟩
  | 52 => ⟨S4096, .f32⟩
  | 53 => ⟨S4096x1, .f32⟩
  | 54 => ⟨S1x4096, .f32⟩
  | 55 => ⟨S4096x4096, .f32⟩
  | 56 => ⟨S4096x4096, .f32⟩
  | 57 => ⟨S4096x4096, .f32⟩
  | 58 => ⟨S1, .f32⟩
  | 59 => ⟨S_, .f32⟩
  | 60 => ⟨S4096x4096, .f32⟩
  | 61 => ⟨S4096x4096, .f32⟩
  | 62 => ⟨S_, .f32⟩
  | 63 => ⟨S4096x4096, .f32⟩
  | 64 => ⟨S4096x4096, .i1⟩
  | 65 => ⟨S_, .f32⟩
  | 66 => ⟨S4096x4096, .f32⟩
  | 67 => ⟨S4096x4096, .f32⟩
  | 68 => ⟨S4096x4096, .f32⟩
  | 69 => ⟨S_, .f32⟩
  | 70 => ⟨S_, .f32⟩
  | 71 => ⟨S4096x4096, .f32⟩
  | 72 => ⟨S4096x4096, .f32⟩
  | 73 => ⟨S_, .f32⟩
  | 74 => ⟨S4096, .f32⟩
  | 75 => ⟨S4096x1, .f32⟩
  | 76 => ⟨S4096x4096, .f32⟩
  | 77 => ⟨S4096x4096, .f32⟩
  | 78 => ⟨S4096x4096, .f32⟩
  | 79 => ⟨S_, .f32⟩
  | 80 => ⟨S_, .f32⟩
  | 81 => ⟨S4096x4096, .f32⟩
  | 82 => ⟨S4096x4096, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .i1⟩
  | 89 => ⟨S_, .f32⟩
  | 90 => ⟨S_, .f32⟩
  | 91 => ⟨S4096x1, .f32⟩
  | 92 => ⟨S4096x1, .f32⟩
  | 93 => ⟨S4096x4096, .f32⟩
  | 94 => ⟨S4096x4096, .f32⟩
  | 95 => ⟨S4096x16, .f32⟩
  | 96 => ⟨S4096x1, .i32⟩
  | 97 => ⟨S_, .i32⟩
  | 98 => ⟨S4096x1, .i32⟩
  | 99 => ⟨S4096x1, .i1⟩
  | 100 => ⟨S4096x16, .f32⟩
  | 101 => ⟨S4096x16, .i1⟩
  | 102 => ⟨S4096x16, .f32⟩
  | 103 => ⟨S_, .f32⟩
  | 104 => ⟨S4096x16, .f32⟩
  | 105 => ⟨S4096x16, .f32⟩
  | 106 => ⟨S4096x16, .f32⟩
  | 107 => ⟨S4096x16, .f32⟩
  | 108 => ⟨S4096x16, .f32⟩
  | 109 => ⟨S_, .f32⟩
  | 110 => ⟨S4096x16, .f32⟩
  | 111 => ⟨S4096x16, .f32⟩
  | 112 => ⟨S_, .f32⟩
  | 113 => ⟨S4096x16, .f32⟩
  | 114 => ⟨S4096x16, .i1⟩
  | 115 => ⟨S4096x16, .f32⟩
  | 116 => ⟨S4096x16, .f32⟩
  | 117 => ⟨S_, .f32⟩
  | 118 => ⟨S16, .f32⟩
  | 119 => ⟨S_, .f32⟩
  | 120 => ⟨S16, .f32⟩
  | 121 => ⟨S16, .f32⟩
  | 122 => ⟨S1, .f32⟩
  | 123 => ⟨S1, .f32⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_call3_v0 : Ref sig .tc := ⟨.hbm, 66, rfl⟩
abbrev main_call3_v1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call4_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_9 : Ref sig .tc := ⟨.hbm, 94, rfl⟩
abbrev main_v64 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_call6_v0 : Ref sig .tc := ⟨.hbm, 102, rfl⟩
abbrev main_call6_v1 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_call7_v0 : Ref sig .tc := ⟨.hbm, 112, rfl⟩
abbrev main_call7_v1 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_cst_15 : Ref sig .tc := ⟨.hbm, 118, rfl⟩
abbrev main_v78 : Ref sig .tc := ⟨.hbm, 119, rfl⟩
abbrev main_v79 : Ref sig .tc := ⟨.hbm, 120, rfl⟩
abbrev main_cst_16 : Ref sig .tc := ⟨.hbm, 121, rfl⟩
abbrev main_call8_v0 : Ref sig .tc := ⟨.hbm, 122, rfl⟩
abbrev main_call8_v1 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_17 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call9_v0 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_18 : Ref sig .tc := ⟨.hbm, 150, rfl⟩
abbrev main_v104 : Ref sig .tc := ⟨.hbm, 151, rfl⟩
abbrev main_v105 : Ref sig .tc := ⟨.hbm, 152, rfl⟩
abbrev main_cst_19 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_20 : Ref sig .tc := ⟨.hbm, 157, rfl⟩
abbrev main_call11_v0 : Ref sig .tc := ⟨.hbm, 158, rfl⟩
abbrev main_call11_v1 : Ref sig .tc := ⟨.hbm, 159, rfl⟩
abbrev main_v109 : Ref sig .tc := ⟨.hbm, 160, rfl⟩
abbrev main_cst_21 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_22 : Ref sig .tc := ⟨.hbm, 167, rfl⟩
abbrev main_call12_v0 : Ref sig .tc := ⟨.hbm, 168, rfl⟩
abbrev main_call12_v1 : Ref sig .tc := ⟨.hbm, 169, rfl⟩
abbrev main_v115 : Ref sig .tc := ⟨.hbm, 170, rfl⟩
abbrev main_cst_23 : Ref sig .tc := ⟨.hbm, 171, rfl⟩
abbrev main_v116 : Ref sig .tc := ⟨.hbm, 172, rfl⟩
abbrev main_v117 : Ref sig .tc := ⟨.hbm, 173, rfl⟩
abbrev main_cst_24 : Ref sig .tc := ⟨.hbm, 174, rfl⟩
abbrev main_v118 : Ref sig .tc := ⟨.hbm, 175, rfl⟩
abbrev main_v119 : Ref sig .tc := ⟨.hbm, 176, rfl⟩
abbrev main_cst_25 : Ref sig .tc := ⟨.hbm, 177, rfl⟩
abbrev main_call13_v0 : Ref sig .tc := ⟨.hbm, 178, rfl⟩
abbrev main_call13_v1 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_c_26 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_call14_v0 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_27 : Ref sig .tc := ⟨.hbm, 206, rfl⟩
abbrev main_v144 : Ref sig .tc := ⟨.hbm, 207, rfl⟩
abbrev main_v145 : Ref sig .tc := ⟨.hbm, 208, rfl⟩
abbrev main_cst_28 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_cst_29 : Ref sig .tc := ⟨.hbm, 213, rfl⟩
abbrev main_call16_v0 : Ref sig .tc := ⟨.hbm, 214, rfl⟩
abbrev main_call16_v1 : Ref sig .tc := ⟨.hbm, 215, rfl⟩
abbrev main_v149 : Ref sig .tc := ⟨.hbm, 216, rfl⟩
abbrev main_cst_30 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_31 : Ref sig .tc := ⟨.hbm, 223, rfl⟩
abbrev main_call17_v0 : Ref sig .tc := ⟨.hbm, 224, rfl⟩
abbrev main_call17_v1 : Ref sig .tc := ⟨.hbm, 225, rfl⟩
abbrev main_v155 : Ref sig .tc := ⟨.hbm, 226, rfl⟩
abbrev main_cst_32 : Ref sig .tc := ⟨.hbm, 227, rfl⟩
abbrev main_v156 : Ref sig .tc := ⟨.hbm, 228, rfl⟩
abbrev main_v157 : Ref sig .tc := ⟨.hbm, 229, rfl⟩
abbrev main_cst_33 : Ref sig .tc := ⟨.hbm, 230, rfl⟩
abbrev main_v158 : Ref sig .tc := ⟨.hbm, 231, rfl⟩
abbrev main_v159 : Ref sig .tc := ⟨.hbm, 232, rfl⟩
abbrev main_cst_34 : Ref sig .tc := ⟨.hbm, 233, rfl⟩
abbrev main_call18_v0 : Ref sig .tc := ⟨.hbm, 234, rfl⟩
abbrev main_call18_v1 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_c_35 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_call19_v0 : Ref sig .tc := ⟨.hbm, 245, rfl⟩
abbrev main_v168 : Ref sig .tc := ⟨.hbm, 246, rfl⟩
abbrev main_v169 : Ref sig .tc := ⟨.hbm, 247, rfl⟩
abbrev main_cst_36 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_37 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_c_38 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_cst_39 : Ref sig .tc := ⟨.hbm, 278, rfl⟩
abbrev main_v197 : Ref sig .tc := ⟨.hbm, 279, rfl⟩
abbrev main_v198 : Ref sig .tc := ⟨.hbm, 280, rfl⟩
abbrev main_cst_40 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_cst_41 : Ref sig .tc := ⟨.hbm, 285, rfl⟩
abbrev main_call22_v0 : Ref sig .tc := ⟨.hbm, 286, rfl⟩
abbrev main_call22_v1 : Ref sig .tc := ⟨.hbm, 287, rfl⟩
abbrev main_v202 : Ref sig .tc := ⟨.hbm, 288, rfl⟩
abbrev main_cst_42 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_cst_43 : Ref sig .tc := ⟨.hbm, 295, rfl⟩
abbrev main_call23_v0 : Ref sig .tc := ⟨.hbm, 296, rfl⟩
abbrev main_call23_v1 : Ref sig .tc := ⟨.hbm, 297, rfl⟩
abbrev main_v208 : Ref sig .tc := ⟨.hbm, 298, rfl⟩
abbrev main_cst_44 : Ref sig .tc := ⟨.hbm, 299, rfl⟩
abbrev main_v209 : Ref sig .tc := ⟨.hbm, 300, rfl⟩
abbrev main_v210 : Ref sig .tc := ⟨.hbm, 301, rfl⟩
abbrev main_cst_45 : Ref sig .tc := ⟨.hbm, 302, rfl⟩
abbrev main_v211 : Ref sig .tc := ⟨.hbm, 303, rfl⟩
abbrev main_v212 : Ref sig .tc := ⟨.hbm, 304, rfl⟩
abbrev main_cst_46 : Ref sig .tc := ⟨.hbm, 305, rfl⟩
abbrev main_call24_v0 : Ref sig .tc := ⟨.hbm, 306, rfl⟩
abbrev main_call24_v1 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_c_47 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_call25_v0 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_cst_48 : Ref sig .tc := ⟨.hbm, 334, rfl⟩
abbrev main_v237 : Ref sig .tc := ⟨.hbm, 335, rfl⟩
abbrev main_v238 : Ref sig .tc := ⟨.hbm, 336, rfl⟩
abbrev main_cst_49 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_cst_50 : Ref sig .tc := ⟨.hbm, 341, rfl⟩
abbrev main_call27_v0 : Ref sig .tc := ⟨.hbm, 342, rfl⟩
abbrev main_call27_v1 : Ref sig .tc := ⟨.hbm, 343, rfl⟩
abbrev main_v242 : Ref sig .tc := ⟨.hbm, 344, rfl⟩
abbrev main_cst_51 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_cst_52 : Ref sig .tc := ⟨.hbm, 351, rfl⟩
abbrev main_call28_v0 : Ref sig .tc := ⟨.hbm, 352, rfl⟩
abbrev main_call28_v1 : Ref sig .tc := ⟨.hbm, 353, rfl⟩
abbrev main_v248 : Ref sig .tc := ⟨.hbm, 354, rfl⟩
abbrev main_cst_53 : Ref sig .tc := ⟨.hbm, 355, rfl⟩
abbrev main_v249 : Ref sig .tc := ⟨.hbm, 356, rfl⟩
abbrev main_v250 : Ref sig .tc := ⟨.hbm, 357, rfl⟩
abbrev main_cst_54 : Ref sig .tc := ⟨.hbm, 358, rfl⟩
abbrev main_v251 : Ref sig .tc := ⟨.hbm, 359, rfl⟩
abbrev main_v252 : Ref sig .tc := ⟨.hbm, 360, rfl⟩
abbrev main_cst_55 : Ref sig .tc := ⟨.hbm, 361, rfl⟩
abbrev main_call29_v0 : Ref sig .tc := ⟨.hbm, 362, rfl⟩
abbrev main_call29_v1 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_c_56 : Ref sig .tc := ⟨.hbm, 369, rfl⟩
abbrev main_v258 : Ref sig .tc := ⟨.hbm, 370, rfl⟩
abbrev main_v259 : Ref sig .tc := ⟨.hbm, 371, rfl⟩
abbrev main_v260 : Ref sig .tc := ⟨.hbm, 372, rfl⟩
abbrev main_call30_v0 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_v266 : Ref sig .tc := ⟨.hbm, 379, rfl⟩
abbrev main_v267 : Ref sig .tc := ⟨.hbm, 380, rfl⟩
abbrev main_v268 : Ref sig .tc := ⟨.hbm, 381, rfl⟩
abbrev main_v269 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_v276 : Ref sig .tc := ⟨.hbm, 389, rfl⟩
abbrev main_cst_57 : Ref sig .tc := ⟨.hbm, 390, rfl⟩
abbrev main_v277 : Ref sig .tc := ⟨.hbm, 391, rfl⟩
abbrev main_v278 : Ref sig .tc := ⟨.hbm, 392, rfl⟩
abbrev main_cst_58 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_cst_59 : Ref sig .tc := ⟨.hbm, 397, rfl⟩
abbrev main_call32_v0 : Ref sig .tc := ⟨.hbm, 398, rfl⟩
abbrev main_call32_v1 : Ref sig .tc := ⟨.hbm, 399, rfl⟩
abbrev main_v282 : Ref sig .tc := ⟨.hbm, 400, rfl⟩
abbrev main_cst_60 : Ref sig .tc := ⟨.hbm, 401, rfl⟩
abbrev main_v283 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_cst_61 : Ref sig .tc := ⟨.hbm, 407, rfl⟩
abbrev main_call33_v0 : Ref sig .tc := ⟨.hbm, 408, rfl⟩
abbrev main_call33_v1 : Ref sig .tc := ⟨.hbm, 409, rfl⟩
abbrev main_v288 : Ref sig .tc := ⟨.hbm, 410, rfl⟩
abbrev main_cst_62 : Ref sig .tc := ⟨.hbm, 411, rfl⟩
abbrev main_v289 : Ref sig .tc := ⟨.hbm, 412, rfl⟩
abbrev main_v290 : Ref sig .tc := ⟨.hbm, 413, rfl⟩
abbrev main_cst_63 : Ref sig .tc := ⟨.hbm, 414, rfl⟩
abbrev main_v291 : Ref sig .tc := ⟨.hbm, 415, rfl⟩
abbrev main_v292 : Ref sig .tc := ⟨.hbm, 416, rfl⟩
abbrev main_cst_64 : Ref sig .tc := ⟨.hbm, 417, rfl⟩
abbrev main_call34_v0 : Ref sig .tc := ⟨.hbm, 418, rfl⟩
abbrev main_call34_v1 : Ref sig .tc := ⟨.hbm, 419, rfl⟩
abbrev main_v293 : Ref sig .tc := ⟨.hbm, 420, rfl⟩
abbrev main_v294 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_c_65 : Ref sig .tc := ⟨.hbm, 425, rfl⟩
abbrev main_v298 : Ref sig .tc := ⟨.hbm, 426, rfl⟩
abbrev main_v299 : Ref sig .tc := ⟨.hbm, 427, rfl⟩
abbrev main_v300 : Ref sig .tc := ⟨.hbm, 428, rfl⟩
abbrev main_call35_v0 : Ref sig .tc := ⟨.hbm, 429, rfl⟩
abbrev main_v301 : Ref sig .tc := ⟨.hbm, 430, rfl⟩
abbrev main_v302 : Ref sig .tc := ⟨.hbm, 431, rfl⟩
abbrev main_v303 : Ref sig .tc := ⟨.hbm, 432, rfl⟩
abbrev main_v304 : Ref sig .tc := ⟨.hbm, 433, rfl⟩
abbrev main_v305 : Ref sig .tc := ⟨.hbm, 434, rfl⟩
abbrev main_v306 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_v311 : Ref sig .tc := ⟨.hbm, 440, rfl⟩
abbrev main_v312 : Ref sig .tc := ⟨.hbm, 441, rfl⟩
abbrev main_v313 : Ref sig .tc := ⟨.hbm, 442, rfl⟩
abbrev main_v314 : Ref sig .tc := ⟨.hbm, 443, rfl⟩
abbrev main_v315 : Ref sig .tc := ⟨.hbm, 444, rfl⟩
abbrev main_v316 : Ref sig .tc := ⟨.hbm, 445, rfl⟩
abbrev main_cst_66 : Ref sig .tc := ⟨.hbm, 446, rfl⟩
abbrev main_v317 : Ref sig .tc := ⟨.hbm, 447, rfl⟩
abbrev main_v318 : Ref sig .tc := ⟨.hbm, 448, rfl⟩
abbrev main_cst_67 : Ref sig .tc := ⟨.hbm, 449, rfl⟩
abbrev main_v319 : Ref sig .tc := ⟨.hbm, 450, rfl⟩
abbrev main_v320 : Ref sig .tc := ⟨.hbm, 451, rfl⟩
abbrev main_v321 : Ref sig .tc := ⟨.hbm, 452, rfl⟩
abbrev main_cst_68 : Ref sig .tc := ⟨.hbm, 453, rfl⟩
abbrev main_call37_v0 : Ref sig .tc := ⟨.hbm, 454, rfl⟩
abbrev main_call37_v1 : Ref sig .tc := ⟨.hbm, 455, rfl⟩
abbrev main_v322 : Ref sig .tc := ⟨.hbm, 456, rfl⟩
abbrev main_cst_69 : Ref sig .tc := ⟨.hbm, 457, rfl⟩
abbrev main_v323 : Ref sig .tc := ⟨.hbm, 458, rfl⟩
abbrev main_v324 : Ref sig .tc := ⟨.hbm, 459, rfl⟩
abbrev main_v325 : Ref sig .tc := ⟨.hbm, 460, rfl⟩
abbrev main_v326 : Ref sig .tc := ⟨.hbm, 461, rfl⟩
abbrev main_v327 : Ref sig .tc := ⟨.hbm, 462, rfl⟩
abbrev main_cst_70 : Ref sig .tc := ⟨.hbm, 463, rfl⟩
abbrev main_call38_v0 : Ref sig .tc := ⟨.hbm, 464, rfl⟩
abbrev main_call38_v1 : Ref sig .tc := ⟨.hbm, 465, rfl⟩
abbrev main_v328 : Ref sig .tc := ⟨.hbm, 466, rfl⟩
abbrev main_cst_71 : Ref sig .tc := ⟨.hbm, 467, rfl⟩
abbrev main_v329 : Ref sig .tc := ⟨.hbm, 468, rfl⟩
abbrev main_v330 : Ref sig .tc := ⟨.hbm, 469, rfl⟩
abbrev main_cst_72 : Ref sig .tc := ⟨.hbm, 470, rfl⟩
abbrev main_v331 : Ref sig .tc := ⟨.hbm, 471, rfl⟩
abbrev main_v332 : Ref sig .tc := ⟨.hbm, 472, rfl⟩
abbrev main_cst_73 : Ref sig .tc := ⟨.hbm, 473, rfl⟩
abbrev main_call39_v0 : Ref sig .tc := ⟨.hbm, 474, rfl⟩
abbrev main_call39_v1 : Ref sig .tc := ⟨.hbm, 475, rfl⟩
abbrev main_v333 : Ref sig .tc := ⟨.hbm, 476, rfl⟩
abbrev main_v334 : Ref sig .tc := ⟨.hbm, 477, rfl⟩
abbrev main_v335 : Ref sig .tc := ⟨.hbm, 478, rfl⟩
abbrev main_v336 : Ref sig .tc := ⟨.hbm, 479, rfl⟩
abbrev main_v337 : Ref sig .tc := ⟨.hbm, 480, rfl⟩
abbrev main_c_74 : Ref sig .tc := ⟨.hbm, 481, rfl⟩
abbrev main_v338 : Ref sig .tc := ⟨.hbm, 482, rfl⟩
abbrev main_v339 : Ref sig .tc := ⟨.hbm, 483, rfl⟩
abbrev main_v340 : Ref sig .tc := ⟨.hbm, 484, rfl⟩
abbrev main_call40_v0 : Ref sig .tc := ⟨.hbm, 485, rfl⟩
abbrev main_v341 : Ref sig .tc := ⟨.hbm, 486, rfl⟩
abbrev main_cst_75 : Ref sig .tc := ⟨.hbm, 487, rfl⟩
abbrev main_v342 : Ref sig .tc := ⟨.hbm, 488, rfl⟩
abbrev main_v343 : Ref sig .tc := ⟨.hbm, 489, rfl⟩
abbrev main_v344 : Ref sig .tc := ⟨.hbm, 490, rfl⟩
abbrev main_v345 : Ref sig .tc := ⟨.hbm, 491, rfl⟩
abbrev main_v346 : Ref sig .tc := ⟨.hbm, 492, rfl⟩
abbrev main_cst_76 : Ref sig .tc := ⟨.hbm, 493, rfl⟩
abbrev main_v347 : Ref sig .tc := ⟨.hbm, 494, rfl⟩
abbrev main_v348 : Ref sig .tc := ⟨.hbm, 495, rfl⟩
abbrev main_cst_77 : Ref sig .tc := ⟨.hbm, 496, rfl⟩
abbrev main_v349 : Ref sig .tc := ⟨.hbm, 497, rfl⟩
abbrev main_v350 : Ref sig .tc := ⟨.hbm, 498, rfl⟩
abbrev main_v351 : Ref sig .tc := ⟨.hbm, 499, rfl⟩
abbrev main_v352 : Ref sig .tc := ⟨.hbm, 500, rfl⟩
abbrev main_cst_78 : Ref sig .tc := ⟨.hbm, 501, rfl⟩
abbrev main_v353 : Ref sig .tc := ⟨.hbm, 502, rfl⟩
abbrev main_cst_79 : Ref sig .tc := ⟨.hbm, 503, rfl⟩
abbrev main_v354 : Ref sig .tc := ⟨.hbm, 504, rfl⟩
abbrev main_v355 : Ref sig .tc := ⟨.hbm, 505, rfl⟩
abbrev main_v356 : Ref sig .tc := ⟨.hbm, 506, rfl⟩
abbrev main_v357 : Ref sig .tc := ⟨.hbm, 507, rfl⟩

abbrev nD : Nat := 1
abbrev τ : Topo := Topo.v7x

variable {F : FTy → Type} [FloatOps F]
-- ==== Proof.Steps.lean ====
/- What one grid point of each of the three kernels computes, and the proof that its body computes it.

   The first two kernels treat every block of rows by itself; the third adds up a vector of sixteen sums over the grid
   points in a scratch buffer and writes its output at the last point only. Everything here is stated at any contents `V`
   of the buffers when the region is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel.Steps

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-matrix load or store are all zero. -/
theorem zero2 : ∀ k : Fin 2, (![0, 0] : Fin 2 → ℕ) k = 0 := by decide

/-- A buffer whose last store was through the rectangle that is its whole shape reads as what was stored, whatever it
    held before and whatever was stored earlier. -/
theorem read_filled {sp : Space} {a b : ℕ} (v : View sig .tc sp ⟨2, ![a, b]⟩ .f32) (f : v.ty.Contents (Elt F))
    (inb : ∀ k, (![0, 0] : Fin 2 → ℕ) k + (⟨2, ![a, b]⟩ : Shape).size k ≤ (⟨2, ![a, b]⟩ : Shape).size k) (p : Vec F ⟨2, ![a, b]⟩ .f32)
    (L : List (View.Piece (Elt F) ⟨2, ![a, b]⟩ .f32)) :
    v.read (Elt F) (v.writes (Elt F) f (⟨Rect.unit (s := ⟨2, ![a, b]⟩) ![0, 0] (⟨2, ![a, b]⟩ : Shape).size inb, p⟩ :: L)) = p :=
  (View.read_writes_eq_canon _ _ _ fun y => ⟨_, List.mem_cons_self .., View.mem_set_unit_zero (View.eq_zero_of_forall zero2) inb y⟩).trans
    (View.canon_cons_unit_lit inb p L zero2)

/-- A load through that rectangle reads the whole contents. -/
theorem ld_whole {a b : ℕ} (X : Vec F ⟨2, ![a, b]⟩ .f32)
    (inb : ∀ k, (![0, 0] : Fin 2 → ℕ) k + (⟨2, ![a, b]⟩ : Shape).size k ≤ (⟨2, ![a, b]⟩ : Shape).size k) :
    View.ld X (Rect.unit (s := ⟨2, ![a, b]⟩) ![0, 0] (⟨2, ![a, b]⟩ : Shape).size inb) = X :=
  View.ld_unit_lit inb X zero2

/-- Loaded again after stores of which the last filled it, a buffer gives what that one stored. -/
theorem reload_filled {sp : Space} {a b : ℕ} (v : View sig .tc sp ⟨2, ![a, b]⟩ .f32)
    (inb : ∀ k, (![0, 0] : Fin 2 → ℕ) k + (⟨2, ![a, b]⟩ : Shape).size k ≤ (⟨2, ![a, b]⟩ : Shape).size k) (p : Vec F ⟨2, ![a, b]⟩ .f32)
    (L : List (View.Piece (Elt F) ⟨2, ![a, b]⟩ .f32)) :
    v.readCov (⟨Rect.unit (s := ⟨2, ![a, b]⟩) ![0, 0] (⟨2, ![a, b]⟩ : Shape).size inb, p⟩ :: L)
      (Rect.unit (s := ⟨2, ![a, b]⟩) ![0, 0] (⟨2, ![a, b]⟩ : Shape).size inb).toLoadRect = p :=
  View.readCov_cons_unit_lit' v inb inb p L zero2 zero2

section Regions
-- the buffers' contents when a region is entered
variable (V : (c : Dev nD) → (b : Ref sig .tc) → Buf (Elt F) ((c : Thread nD τ).loc b))

/-! # The first kernel: `h = (adj · feats) · W + b`, and its transpose -/

/-- Window `w`'s block at point `t` of the first kernel, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in
/-- The first kernel's body on whole buffers: the inputs stay, the outputs end at the two stored vectors. -/
theorem body0_runs (c : Dev nD) (E : Set ℕ) (i : grid0.Coords) (arg1 : Memref sig .tc .vmem S512x4096 .f32) (harg1 : arg1.IsWhole) (arg2 : Memref sig .tc .vmem S4096x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S16x512 .f32) (harg6 : arg6.IsWhole)
    (x0 : Vec F S512x4096 .f32) (x1 : Vec F S4096x128 .f32) (x2 : Vec F S128x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x1 x2 x3) ∗ owns (c : Thread nD τ) arg6 fullShare (k0_pay2 x0 x1 x2 x3)) -∗ K ⟨⟩))
      ⊢ wp frame (wpE (defs₀ (F := F)) Variants.none c none) E (cc0__h1_kernel i arg1 harg1 arg2 harg2 arg3 harg3 arg4 harg4 arg5 harg5 arg6 harg6) K := by
  simp only [cc0__h1_kernel_eq_skeleton]; unfold cc0__h1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_filled]
    simp only [View.readAt_eq_ld]
    rw [ld_whole, ld_whole, ld_whole, ld_whole]
  iexists _; isplitr
  swap; · iexact H5
  ipureintro
  rw [read_filled]
  simp only [View.readAt_eq_ld]
  rw [ld_whole, ld_whole, ld_whole, ld_whole]

/-- The first kernel's data on core `c`: the arrays as found; at each point the inputs' buffers at their blocks and the
    outputs' at the two vectors the body stores. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay1 (blk0 V c 0 t) (blk0 V c 1 t) (blk0 V c 2 t) (blk0 V c 3 t)
    | ⟨5, _⟩ => k0_pay2 (blk0 V c 0 t) (blk0 V c 1 t) (blk0 V c 2 t) (blk0 V c 3 t)
  Φ _ := Pipeline.ΦA spec0 c
  q w := Pipeline.shareOf spec0 w
  owed _ := 0

/-- The first call's arrays start at the contents it finds. -/
theorem dat0_A (c : Dev nD) (w : Fin cfg0.W) : (dat0 V c).A w = V c (Pipeline.arrRef spec0 w) := by dsimp only [dat0]

/-- An input window's buffer holds its block at every point, fetched there or kept from before. -/
theorem before0 (c : Dev nD) : ∀ w : Fin 6, (cfg0.win w).isOut = false → ∀ t d, (dat0 V c).before w t d = (dat0 V c).fetched w t d := by
  intro w hw t d
  fin_cases w
  all_goals first
    | exact absurd hw (by decide)
    | exact (dat0 V c).before_in_eq_fetched _ rfl (fun _ => rfl) (fun _ _ _ => rfl) (fun _ => rfl) t d

/-- What the pipeline hands the body of call 0 at point `t`, -/
def enters0 (c : Dev nD) (t : Fin cfg0.N) : sProp 𝕄 :=
  iprop((dat0 V c).Φ t.castSucc ∗ (dat0 V c).owesAt () t.castSucc ∗ bigSep Finset.univ fun w : Fin cfg0.W =>
    iprop(∃ d, owns (c : Thread nD τ) ((cfg0.win w).stage (cfg0.slots t w)) fullShare ((dat0 V c).before w t d)))

/-- and what it asks back. -/
def leaves0 (c : Dev nD) (t : Fin cfg0.N) : sProp 𝕄 :=
  iprop((dat0 V c).Φ t.succ ∗ (dat0 V c).owesAt () t.succ ∗ bigSep Finset.univ fun w : Fin cfg0.W =>
    owns (c : Thread nD τ) ((cfg0.win w).stage (cfg0.slots t w)) fullShare ((dat0 V c).after w t))

/-- The body's row in the table of bodies, at the buffers in use at point `t`. -/
theorem row0 (t : Fin cfg0.N) : defs₀ (F := F) .tc cfg0.body (cfg0.bodyArgs t (cfg0.slots t)) = bodyAt0 t := by
  unfold defs₀; rw [Defs.onTc_tc]

/-- The body of call 0, between the two. -/
theorem holds0 (c : Dev nD) (t : Fin cfg0.N) :
    enters0 V c t ⊢ wp frame (wpE (defs₀ (F := F)) Variants.none c none) Set.univ (bodyAt0 t) (fun _ => leaves0 V c t) := by
  unfold enters0 leaves0 bodyAt0
  rw [bigSep_W0, bigSep_W0, show (dat0 V c).Φ t.succ = (dat0 V c).Φ t.castSucc from rfl,
    show (dat0 V c).owesAt () t.succ = (dat0 V c).owesAt () t.castSucc from rfl]
  simp only [before0 V c 0 rfl, before0 V c 1 rfl, before0 V c 2 rfl, before0 V c 3 rfl]
  iintro ⟨HΦ, Ho, ⟨%d0, H0⟩, ⟨%d1, H1⟩, ⟨%d2, H2⟩, ⟨%d3, H3⟩, ⟨%d4, H4⟩, ⟨%d5, H5⟩⟩
  iapply (body0_runs c Set.univ (grid0.coords t) _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline puts on that body. -/
theorem runs0 (c : Dev nD) : BodyObligation (dat0 (F := F) V c) (defs₀ (F := F)) Variants.none () Set.univ := fun t => by
  rw [row0]
  exact triple_restated (holds0 V c t) rfl .rfl fun _ => .rfl

/-! # The second kernel: four attention heads over `h`, joined, through `elu`, times `W` plus `b`, and its transpose -/

/-- Window `w`'s block at point `t` of the second kernel, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (x0 : Vec F S512x4096 .f32) (x1 : Vec F S4096x16 .f32) (x2 : Vec F S512x16 .f32) (x3 : Vec F S16x4096 .f32) (x4 : Vec F S16x4 .f32) (x5 : Vec F S4x16 .f32) (x6 : Vec F S1x4 .f32)

/-- The first head of a block of rows, from the block's adjacency rows, the whole `h`, its block, its transpose, the two
    halves of the attention vectors and the attention biases. -/
def head10 : FVec F S512x16 .f32 :=
  k1_pay11 x0 (k1_pay1 x1) (k1_pay2 x2) (k1_pay5 x3 x5) (k1_pay8 x2 x3 x4 x5 x6) (k1_pay9 x3 x5) (k1_pay10 x2 x3 x4 x5 x6)

/-- The second head. -/
def head11 : FVec F S512x16 .f32 :=
  k1_pay18 x0 (k1_pay1 x1) (k1_pay2 x2) (k1_pay12 (k1_pay4 x3 x5)) (k1_pay15 (k1_pay3 x2 x4 x6) (k1_pay4 x3 x5)) (k1_pay16 (k1_pay4 x3 x5)) (k1_pay17 (k1_pay3 x2 x4 x6) (k1_pay4 x3 x5))

/-- The third head. -/
def head12 : FVec F S512x16 .f32 :=
  k1_pay25 x0 (k1_pay1 x1) (k1_pay2 x2) (k1_pay19 (k1_pay4 x3 x5)) (k1_pay22 (k1_pay3 x2 x4 x6) (k1_pay4 x3 x5)) (k1_pay23 (k1_pay4 x3 x5)) (k1_pay24 (k1_pay3 x2 x4 x6) (k1_pay4 x3 x5))

/-- The block of rows the second kernel stores: the fourth head is formed inside. -/
def layer1 (x7 : Vec F S64x16 .f32) (x8 : Vec F S1x16 .f32) : FVec F S512x16 .f32 :=
  k1_pay32 x0 (k1_pay1 x1) (k1_pay2 x2) (head10 x0 x1 x2 x3 x4 x5 x6) (head11 x0 x1 x2 x3 x4 x5 x6) (head12 x0 x1 x2 x3 x4 x5 x6)
    (k1_pay26 (k1_pay4 x3 x5)) (k1_pay29 (k1_pay3 x2 x4 x6) (k1_pay4 x3 x5)) (k1_pay30 (k1_pay4 x3 x5)) (k1_pay31 (k1_pay3 x2 x4 x6) (k1_pay4 x3 x5)) x7 x8

/-- The transpose it stores. -/
def layer1T (x7 : Vec F S64x16 .f32) (x8 : Vec F S1x16 .f32) : FVec F S16x512 .f32 :=
  k1_pay33 x0 (k1_pay1 x1) (k1_pay2 x2) (head10 x0 x1 x2 x3 x4 x5 x6) (head11 x0 x1 x2 x3 x4 x5 x6) (head12 x0 x1 x2 x3 x4 x5 x6)
    (k1_pay26 (k1_pay4 x3 x5)) (k1_pay29 (k1_pay3 x2 x4 x6) (k1_pay4 x3 x5)) (k1_pay30 (k1_pay4 x3 x5)) (k1_pay31 (k1_pay3 x2 x4 x6) (k1_pay4 x3 x5)) x7 x8

end

set_option maxHeartbeats 1000000 in
/-- The second kernel's body on whole buffers: the inputs stay, the outputs end at the two stored vectors. -/
theorem body1_runs (c : Dev nD) (E : Set ℕ) (i : grid1.Coords) (arg1 : Memref sig .tc .vmem S512x4096 .f32) (harg1 : arg1.IsWhole) (arg2 : Memref sig .tc .vmem S4096x16 .f32) (harg2 : arg2.IsWhole) (arg3 : Memref sig .tc .vmem S512x16 .f32) (harg3 : arg3.IsWhole) (arg4 : Memref sig .tc .vmem S16x4096 .f32) (harg4 : arg4.IsWhole) (arg5 : Memref sig .tc .vmem S16x4 .f32) (harg5 : arg5.IsWhole) (arg6 : Memref sig .tc .vmem S4x16 .f32) (harg6 : arg6.IsWhole) (arg7 : Memref sig .tc .vmem S1x4 .f32) (harg7 : arg7.IsWhole) (arg8 : Memref sig .tc .vmem S64x16 .f32) (harg8 : arg8.IsWhole) (arg9 : Memref sig .tc .vmem S1x16 .f32) (harg9 : arg9.IsWhole) (arg10 : Memref sig .tc .vmem S512x16 .f32) (harg10 : arg10.IsWhole) (arg11 : Memref sig .tc .vmem S16x512 .f32) (harg11 : arg11.IsWhole)
    (x0 : Vec F S512x4096 .f32) (x1 : Vec F S4096x16 .f32) (x2 : Vec F S512x16 .f32) (x3 : Vec F S16x4096 .f32) (x4 : Vec F S16x4 .f32) (x5 : Vec F S4x16 .f32) (x6 : Vec F S1x4 .f32) (x7 : Vec F S64x16 .f32) (x8 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare (layer1 x0 x1 x2 x3 x4 x5 x6 x7 x8)
        ∗ owns (c : Thread nD τ) arg11 fullShare (layer1T x0 x1 x2 x3 x4 x5 x6 x7 x8)) -∗ K ⟨⟩))
      ⊢ wp frame (wpE (defs₀ (F := F)) Variants.none c none) E (cc1__attn1_kernel i arg1 harg1 arg2 harg2 arg3 harg3 arg4 harg4 arg5 harg5 arg6 harg6 arg7 harg7 arg8 harg8 arg9 harg9 arg10 harg10 arg11 harg11) K := by
  simp only [cc1__attn1_kernel_eq_skeleton]; unfold cc1__attn1_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [read_filled]
    rw [← ld_whole (arg1.view.read (Elt F) f0) inb_S512x4096_S512x4096_0_0, ← ld_whole (arg2.view.read (Elt F) f1) inb_S4096x16_S4096x16_0_0, ← ld_whole (arg3.view.read (Elt F) f2) inb_S512x16_S512x16_0_0, ← ld_whole (arg4.view.read (Elt F) f3) inb_S16x4096_S16x4096_0_0, ← ld_whole (arg5.view.read (Elt F) f4) inb_S16x4_S16x4_0_0, ← ld_whole (arg6.view.read (Elt F) f5) inb_S4x16_S4x16_0_0, ← ld_whole (arg7.view.read (Elt F) f6) inb_S1x4_S1x4_0_0, ← ld_whole (arg8.view.read (Elt F) f7) inb_S64x16_S64x16_0_0, ← ld_whole (arg9.view.read (Elt F) f8) inb_S1x16_S1x16_0_0]
    rfl
  iexists _; isplitr
  swap; · iexact H10
  ipureintro
  rw [read_filled]
  rw [← ld_whole (arg1.view.read (Elt F) f0) inb_S512x4096_S512x4096_0_0, ← ld_whole (arg2.view.read (Elt F) f1) inb_S4096x16_S4096x16_0_0, ← ld_whole (arg3.view.read (Elt F) f2) inb_S512x16_S512x16_0_0, ← ld_whole (arg4.view.read (Elt F) f3) inb_S16x4096_S16x4096_0_0, ← ld_whole (arg5.view.read (Elt F) f4) inb_S16x4_S16x4_0_0, ← ld_whole (arg6.view.read (Elt F) f5) inb_S4x16_S4x16_0_0, ← ld_whole (arg7.view.read (Elt F) f6) inb_S1x4_S1x4_0_0, ← ld_whole (arg8.view.read (Elt F) f7) inb_S64x16_S64x16_0_0, ← ld_whole (arg9.view.read (Elt F) f8) inb_S1x16_S1x16_0_0]
  rfl

/-- The second kernel's data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => layer1 (blk1 V c 0 t) (blk1 V c 1 t) (blk1 V c 2 t) (blk1 V c 3 t) (blk1 V c 4 t) (blk1 V c 5 t) (blk1 V c 6 t) (blk1 V c 7 t) (blk1 V c 8 t)
    | ⟨10, _⟩ => layer1T (blk1 V c 0 t) (blk1 V c 1 t) (blk1 V c 2 t) (blk1 V c 3 t) (blk1 V c 4 t) (blk1 V c 5 t) (blk1 V c 6 t) (blk1 V c 7 t) (blk1 V c 8 t)
  Φ _ := Pipeline.ΦA spec1 c
  q w := Pipeline.shareOf spec1 w
  owed _ := 0

/-- The second call's arrays start at the contents it finds. -/
theorem dat1_A (c : Dev nD) (w : Fin cfg1.W) : (dat1 V c).A w = V c (Pipeline.arrRef spec1 w) := by dsimp only [dat1]

/-- An input window's buffer holds its block at every point, fetched there or kept from before. -/
theorem before1 (c : Dev nD) : ∀ w : Fin 11, (cfg1.win w).isOut = false → ∀ t d, (dat1 V c).before w t d = (dat1 V c).fetched w t d := by
  intro w hw t d
  fin_cases w
  all_goals first
    | exact absurd hw (by decide)
    | exact (dat1 V c).before_in_eq_fetched _ rfl (fun _ => rfl) (fun _ _ _ => rfl) (fun _ => rfl) t d

/-- What the pipeline hands the body of call 1 at point `t`, -/
def enters1 (c : Dev nD) (t : Fin cfg1.N) : sProp 𝕄 :=
  iprop((dat1 V c).Φ t.castSucc ∗ (dat1 V c).owesAt () t.castSucc ∗ bigSep Finset.univ fun w : Fin cfg1.W =>
    iprop(∃ d, owns (c : Thread nD τ) ((cfg1.win w).stage (cfg1.slots t w)) fullShare ((dat1 V c).before w t d)))

/-- and what it asks back. -/
def leaves1 (c : Dev nD) (t : Fin cfg1.N) : sProp 𝕄 :=
  iprop((dat1 V c).Φ t.succ ∗ (dat1 V c).owesAt () t.succ ∗ bigSep Finset.univ fun w : Fin cfg1.W =>
    owns (c : Thread nD τ) ((cfg1.win w).stage (cfg1.slots t w)) fullShare ((dat1 V c).after w t))

/-- The body's row in the table of bodies, at the buffers in use at point `t`. -/
theorem row1 (t : Fin cfg1.N) : defs₀ (F := F) .tc cfg1.body (cfg1.bodyArgs t (cfg1.slots t)) = bodyAt1 t := by
  unfold defs₀; rw [Defs.onTc_tc]

/-- The body of call 1, between the two. -/
theorem holds1 (c : Dev nD) (t : Fin cfg1.N) :
    enters1 V c t ⊢ wp frame (wpE (defs₀ (F := F)) Variants.none c none) Set.univ (bodyAt1 t) (fun _ => leaves1 V c t) := by
  unfold enters1 leaves1 bodyAt1
  rw [bigSep_W1, bigSep_W1, show (dat1 V c).Φ t.succ = (dat1 V c).Φ t.castSucc from rfl,
    show (dat1 V c).owesAt () t.succ = (dat1 V c).owesAt () t.castSucc from rfl]
  simp only [before1 V c 0 rfl, before1 V c 1 rfl, before1 V c 2 rfl, before1 V c 3 rfl, before1 V c 4 rfl, before1 V c 5 rfl, before1 V c 6 rfl, before1 V c 7 rfl, before1 V c 8 rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body1_runs c Set.univ (grid1.coords t) _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The obligation the pipeline puts on that body. -/
theorem runs1 (c : Dev nD) : BodyObligation (dat1 (F := F) V c) (defs₀ (F := F)) Variants.none () Set.univ := fun t => by
  rw [row1]
  exact triple_restated (holds1 V c t) rfl .rfl fun _ => .rfl

/-! # The third kernel: the same four heads over the second `h`, averaged, through `elu`, summed over the rows; at the last
point the sums give the network's output -/

/-- Window `w`'s block at point `t` of the third kernel, read off its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (x0 : Vec F S512x4096 .f32) (x1 : Vec F S4096x16 .f32) (x2 : Vec F S512x16 .f32) (x3 : Vec F S16x4096 .f32) (x4 : Vec F S16x4 .f32) (x5 : Vec F S4x16 .f32) (x6 : Vec F S1x4 .f32)

/-- The first head of a block of rows, from the block's adjacency rows, the whole `h`, its block, its transpose, the two
    halves of the attention vectors and the attention biases. -/
def head20 : FVec F S512x16 .f32 :=
  k2_pay13 x0 (k2_pay3 x1) (k2_pay4 x2) (k2_pay7 x3 x5) (k2_pay10 x2 x3 x4 x5 x6) (k2_pay11 x3 x5) (k2_pay12 x2 x3 x4 x5 x6)

/-- The second head. -/
def head21 : FVec F S512x16 .f32 :=
  k2_pay20 x0 (k2_pay3 x1) (k2_pay4 x2) (k2_pay14 (k2_pay6 x3 x5)) (k2_pay17 (k2_pay5 x2 x4 x6) (k2_pay6 x3 x5)) (k2_pay18 (k2_pay6 x3 x5)) (k2_pay19 (k2_pay5 x2 x4 x6) (k2_pay6 x3 x5))

/-- The third head. -/
def head22 : FVec F S512x16 .f32 :=
  k2_pay27 x0 (k2_pay3 x1) (k2_pay4 x2) (k2_pay21 (k2_pay6 x3 x5)) (k2_pay24 (k2_pay5 x2 x4 x6) (k2_pay6 x3 x5)) (k2_pay25 (k2_pay6 x3 x5)) (k2_pay26 (k2_pay5 x2 x4 x6) (k2_pay6 x3 x5))

/-- What a block of rows adds to the sixteen sums: the fourth head is formed inside. -/
def rowSums : FVec F S1x16 .f32 :=
  k2_pay34 x0 (k2_pay3 x1) (k2_pay4 x2) (head20 x0 x1 x2 x3 x4 x5 x6) (head21 x0 x1 x2 x3 x4 x5 x6) (head22 x0 x1 x2 x3 x4 x5 x6)
    (k2_pay28 (k2_pay6 x3 x5)) (k2_pay31 (k2_pay5 x2 x4 x6) (k2_pay6 x3 x5)) (k2_pay32 (k2_pay6 x3 x5)) (k2_pay33 (k2_pay5 x2 x4 x6) (k2_pay6 x3 x5))

end

/-- The test the body makes for the first grid point, -/
def atFirst (i : grid2.Coords) : Prop :=
  Scalar.cmpi .ne (Scalar.extui (Scalar.cmpi .eq (BitVec.ofNat 32 (i 0).val) 0#32)) 0#32 = 1#1

/-- and for the last. -/
def atLast (i : grid2.Coords) : Prop := k2_cond2 i = 1#1

/-- Both tests can be decided. -/
instance (i : grid2.Coords) : Decidable (atFirst i) := inferInstanceAs (Decidable (_ = _))
instance (i : grid2.Coords) : Decidable (atLast i) := inferInstanceAs (Decidable (_ = _))

/-- The sums after a point: the block's are added to what the point before left, or to zeros at the first point. -/
def addTo (i : grid2.Coords) (p xs : Vec F S1x16 .f32) : FVec F S1x16 .f32 := k2_pay1 p (if atFirst i then k2_pay35 else xs)

set_option maxHeartbeats 4000000 in
/-- The third kernel's body on whole buffers: the inputs stay, the sums move on by one block, and the output is written
    at the last point only. -/
theorem body2_runs (c : Dev nD) (E : Set ℕ) (i : grid2.Coords) (arg1 : Memref sig .tc .vmem S512x4096 .f32) (harg1 : arg1.IsWhole) (arg2 : Memref sig .tc .vmem S4096x16 .f32) (harg2 : arg2.IsWhole) (arg3 : Memref sig .tc .vmem S512x16 .f32) (harg3 : arg3.IsWhole) (arg4 : Memref sig .tc .vmem S16x4096 .f32) (harg4 : arg4.IsWhole) (arg5 : Memref sig .tc .vmem S16x4 .f32) (harg5 : arg5.IsWhole) (arg6 : Memref sig .tc .vmem S4x16 .f32) (harg6 : arg6.IsWhole) (arg7 : Memref sig .tc .vmem S1x4 .f32) (harg7 : arg7.IsWhole) (arg8 : Memref sig .tc .vmem S1x16 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x16 .f32) (harg12 : arg12.IsWhole)
    (x0 : Vec F S512x4096 .f32) (x1 : Vec F S4096x16 .f32) (x2 : Vec F S512x16 .f32) (x3 : Vec F S16x4096 .f32) (x4 : Vec F S16x4 .f32) (x5 : Vec F S4x16 .f32) (x6 : Vec F S1x4 .f32) (x7 : Vec F S1x16 .f32) (x8 : Vec F S1x1 .f32) (x9 : Vec F S1x1 .f32) (d : Vec F S1x1 .f32) (xs : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare d ∗ owns (c : Thread nD τ) arg12 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9
        ∗ owns (c : Thread nD τ) arg11 fullShare (if atLast i then k2_pay2 (addTo i (rowSums x0 x1 x2 x3 x4 x5 x6) xs) x9 x7 x8 else d)
        ∗ owns (c : Thread nD τ) arg12 fullShare (addTo i (rowSums x0 x1 x2 x3 x4 x5 x6) xs)) -∗ K ⟨⟩))
      ⊢ wp frame (wpE (defs₀ (F := F)) Variants.none c none) E (cc2__attn2_kernel i arg1 harg1 arg2 harg2 arg3 harg3 arg4 harg4 arg5 harg5 arg6 harg6 arg7 harg7 arg8 harg8 arg9 harg9 arg10 harg10 arg11 harg11 arg12 harg12) K := by
  simp only [cc2__attn2_kernel_eq_skeleton]; unfold cc2__attn2_kernel_skel
  simp only [k2_part1_eq_skeleton, k2_part2_eq_skeleton, k2_part3_eq_skeleton, k2_part4_eq_skeleton, k2_part5_eq_skeleton]
  unfold owns addTo
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0 hf1 hf2 hf3 hf4 hf5 hf6 hf7 hf8 hf9 hf10 hf11
  by_cases hc0 : atFirst i <;> by_cases hc1 : atLast i
  all_goals
    simp only [hc0, hc1, if_true, if_false]
    unfold atFirst at hc0
    unfold atLast at hc1
    sl_exec (disch := first | sl_exact hc0 | sl_exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      first
        | rfl
        | refine (read_filled _ _ _ _ _).trans ?_
          refine congr (congr (congr (congrArg k2_pay2 ?_) ?_) ?_) ?_
          · refine (reload_filled _ _ _ _).trans ?_
            refine congr (congrArg k2_pay1 ?_) ?_
            · rw [← ld_whole (arg1.view.read (Elt F) f0) inb_S512x4096_S512x4096_0_0, ← ld_whole (arg2.view.read (Elt F) f1) inb_S4096x16_S4096x16_0_0, ← ld_whole (arg3.view.read (Elt F) f2) inb_S512x16_S512x16_0_0, ← ld_whole (arg4.view.read (Elt F) f3) inb_S16x4096_S16x4096_0_0, ← ld_whole (arg5.view.read (Elt F) f4) inb_S16x4_S16x4_0_0, ← ld_whole (arg6.view.read (Elt F) f5) inb_S4x16_S4x16_0_0, ← ld_whole (arg7.view.read (Elt F) f6) inb_S1x4_S1x4_0_0]
              rfl
            · first
                | exact reload_filled _ _ _ _
                | exact (View.readAt_eq_ld _ _ _).trans (ld_whole _ _)
          all_goals exact (View.readAt_eq_ld _ _ _).trans (ld_whole _ _)
    iexists _; isplitr
    swap; · iexact H11
    ipureintro
    refine (read_filled _ _ _ _ _).trans ?_
    refine congr (congrArg k2_pay1 ?_) ?_
    · rw [← ld_whole (arg1.view.read (Elt F) f0) inb_S512x4096_S512x4096_0_0, ← ld_whole (arg2.view.read (Elt F) f1) inb_S4096x16_S4096x16_0_0, ← ld_whole (arg3.view.read (Elt F) f2) inb_S512x16_S512x16_0_0, ← ld_whole (arg4.view.read (Elt F) f3) inb_S16x4096_S16x4096_0_0, ← ld_whole (arg5.view.read (Elt F) f4) inb_S16x4_S16x4_0_0, ← ld_whole (arg6.view.read (Elt F) f5) inb_S4x16_S4x16_0_0, ← ld_whole (arg7.view.read (Elt F) f6) inb_S1x4_S1x4_0_0]
      rfl
    · first
        | exact reload_filled _ _ _ _
        | exact (View.readAt_eq_ld _ _ _).trans (ld_whole _ _)

end Regions

end Cert.Kernel.Steps

end
-- ==== Proof.Fold.lean ====
/- The third kernel over its grid: the sixteen sums carried in the scratch buffer from point to point, and the one
   output written at the last. Stated at any contents `V` of the buffers when its call is entered. -/
module

public import proofs.«01_k».proof.Proof.Steps

@[expose] public section

set_option maxRecDepth 16384

noncomputable section

namespace Cert.Kernel.Steps

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffers' contents when the call is entered
variable (V : (c : Dev nD) → (b : Ref sig .tc) → Buf (Elt F) ((c : Thread nD τ).loc b))

/-- The grid point's index in the body's own tests. -/
theorem coord2 (t : Fin cfg2.N) : (grid2.coords t 0).val = t.val / 1 % 8 := Pipeline.Grid.coords_val t 0 (by decide) rfl

/-- The first test holds at point 0 alone. -/
theorem atFirst_iff (t : Fin cfg2.N) : atFirst (grid2.coords t) ↔ t.val = 0 := by
  have ht : t.val < 8 := Nat.lt_of_lt_of_eq t.isLt N_2
  have e0 := coord2 t
  unfold atFirst
  simp only [e0]
  word_cmp

/-- The last test holds at point 7 alone. -/
theorem atLast_iff (t : Fin cfg2.N) : atLast (grid2.coords t) ↔ t.val = 7 := by
  have ht : t.val < 8 := Nat.lt_of_lt_of_eq t.isLt N_2
  have e0 := coord2 t
  unfold atLast k2_cond2
  simp only [e0]
  word_cmp

/-- The row sums of block `t`. -/
def part (c : Dev nD) (t : Fin cfg2.N) : FVec F S1x16 .f32 := rowSums (blk2 V c 0 t) (blk2 V c 1 t) (blk2 V c 2 t) (blk2 V c 3 t) (blk2 V c 4 t) (blk2 V c 5 t) (blk2 V c 6 t)

/-- The sums of the first `n` blocks, added up in order from zeros. -/
def sums (c : Dev nD) : ℕ → Vec F S1x16 .f32
  | 0 => k2_pay35
  | n + 1 => if h : n < cfg2.N then k2_pay1 (part V c ⟨n, h⟩) (sums c n) else sums c n

/-- The step the body takes at point `t`, from what the point before left. -/
theorem addTo_sums (c : Dev nD) (t : Fin cfg2.N) (xs : Vec F S1x16 .f32) (h : t.val ≠ 0 → xs = sums V c t.val) :
    addTo (grid2.coords t) (part V c t) xs = sums V c (t.val + 1) := by
  rw [sums, dif_pos t.isLt]
  unfold addTo
  congr 1
  by_cases h0 : t.val = 0
  · rw [if_pos ((atFirst_iff t).mpr h0), h0]; rfl
  · rw [if_neg (fun h1 => h0 ((atFirst_iff t).mp h1)), h h0]

/-- The scratch buffer between points: anything before the first, afterwards the sums so far; with it what else the call
    has of its own. -/
def carried (c : Dev nD) (n : ℕ) : sProp 𝕄 :=
  iprop(∃ xs, ⌜n ≠ 0 → xs = sums V c n⌝ ∗ owns (c : Thread nD τ) (Memref.whole cc2_scratch0) fullShare xs)

/-- The third kernel's data on core `c`: the output's buffer is written at the last point, with the output there. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => k2_pay2 (sums V c (t.val + 1)) (blk2 V c 9 t) (blk2 V c 7 t) (blk2 V c 8 t)
  Φ t := iprop(carried V c t.val ∗ Pipeline.scopedRestBut spec2 c [cc2_scratch0] ∗ ∃ r, prngReg c r)
  q w := Pipeline.shareOf spec2 w
  owed _ := 0

/-- The third call's arrays start at the contents it finds. -/
theorem dat2_A (c : Dev nD) (w : Fin cfg2.W) : (dat2 V c).A w = V c (Pipeline.arrRef spec2 w) := by dsimp only [dat2]

/-- An input window's buffer holds its block at every point, fetched there or kept from before. -/
theorem before2 (c : Dev nD) : ∀ w : Fin 11, (cfg2.win w).isOut = false → ∀ t d, (dat2 V c).before w t d = (dat2 V c).fetched w t d := by
  intro w hw t d
  fin_cases w
  all_goals first
    | exact absurd hw (by decide)
    | exact (dat2 V c).before_in_eq_fetched _ rfl (fun _ => rfl) (fun _ _ _ => rfl) (fun _ => rfl) t d

/-- The output's buffer after point `t`: the output at the last point, what it held before at the others. -/
def outAt (c : Dev nD) (t : Fin cfg2.N) (d : Vec F S1x1 .f32) : Vec F S1x1 .f32 :=
  if atLast (grid2.coords t) then k2_pay2 (sums V c (t.val + 1)) (blk2 V c 9 t) (blk2 V c 7 t) (blk2 V c 8 t) else d

/-- What the pipeline asks back of an input's buffer at any point. -/
theorem left2 (c : Dev nD) : ∀ w : Fin 11, (cfg2.win w).isOut = false → ∀ t,
    (dat2 V c).leavesExact w t = owns (c : Thread nD τ) ((cfg2.win w).stage (cfg2.slots t w)) fullShare ((dat2 V c).after w t) := by
  intro w hw t
  fin_cases w
  all_goals first
    | exact absurd hw (by decide)
    | rfl

/-- What it asks back of the output's buffer: the output at the last point, at the others what was there. -/
theorem out_left (c : Dev nD) (t : Fin cfg2.N) (d : (cfg2.win 10).block.Idx → Elt F (cfg2.win 10).elt) :
    owns (c : Thread nD τ) (st2_10 t) fullShare (outAt V c t ((dat2 V c).before 10 t d)) ⊢ ((dat2 V c).leavesExact 10 t : sProp 𝕄) := by
  by_cases h : atLast (grid2.coords t)
  · rw [outAt, if_pos h, show (dat2 V c).leavesExact 10 t = owns (c : Thread nD τ) (st2_10 t) fullShare ((dat2 V c).after 10 t) by
      unfold Dat.leavesExact
      rw [show cfg2.idle 10 (cfg2.grid.coords t) = !(k2_cond2 (grid2.coords t) == 1#1) from rfl, show k2_cond2 (grid2.coords t) = 1#1 from h]
      rfl]
    exact .rfl
  · rw [outAt, if_neg h, (dat2 V c).leavesExact_idle 10 t
      (by rw [show cfg2.idle 10 (cfg2.grid.coords t) = !(k2_cond2 (grid2.coords t) == 1#1) from rfl, show (k2_cond2 (grid2.coords t) == 1#1) = false from beq_false_of_ne h]; rfl)
      (by
        have ht : t.val < 8 := Nat.lt_of_lt_of_eq t.isLt N_2
        have h7 := fun h' => h ((atLast_iff t).mpr h')
        exact Bool.eq_false_iff.mpr fun hf => h7 (by have := (flush2_10 t).mp hf; omega))]
    iintro H
    iexists d
    iexact H

/-- What the pipeline hands the body of call 2 at point `t`, -/
def enters2 (c : Dev nD) (t : Fin cfg2.N) : sProp 𝕄 :=
  iprop((dat2 V c).Φ t.castSucc ∗ (dat2 V c).owesAt () t.castSucc ∗ bigSep Finset.univ fun w : Fin cfg2.W =>
    iprop(∃ d, owns (c : Thread nD τ) ((cfg2.win w).stage (cfg2.slots t w)) fullShare ((dat2 V c).before w t d)))

/-- and what it asks back. -/
def leaves2 (c : Dev nD) (t : Fin cfg2.N) : sProp 𝕄 :=
  iprop((dat2 V c).Φ t.succ ∗ (dat2 V c).owesAt () t.succ ∗ bigSep Finset.univ fun w : Fin cfg2.W => (dat2 V c).leavesExact w t)

/-- The body's row in the table of bodies, at the buffers in use at point `t`. -/
theorem row2 (t : Fin cfg2.N) : defs₀ (F := F) .tc cfg2.body (cfg2.bodyArgs t (cfg2.slots t)) = bodyAt2 t := by
  unfold defs₀; rw [Defs.onTc_tc]

/-- The body of call 2, between the two. -/
theorem holds2 (c : Dev nD) (t : Fin cfg2.N) :
    enters2 V c t ⊢ wp frame (wpE (defs₀ (F := F)) Variants.none c none) Set.univ (bodyAt2 t) (fun _ => leaves2 V c t) := by
  unfold enters2 leaves2 bodyAt2
  rw [bigSep_W2, bigSep_W2,
    show (dat2 V c).Φ t.castSucc = iprop(carried V c t.val ∗ Pipeline.scopedRestBut spec2 c [cc2_scratch0] ∗ ∃ r, prngReg c r) from rfl,
    show (dat2 V c).Φ t.succ = iprop(carried V c (t.val + 1) ∗ Pipeline.scopedRestBut spec2 c [cc2_scratch0] ∗ ∃ r, prngReg c r) from rfl,
    show (dat2 V c).owesAt () t.succ = (dat2 V c).owesAt () t.castSucc from rfl]
  simp only [before2 V c 0 rfl, before2 V c 1 rfl, before2 V c 2 rfl, before2 V c 3 rfl, before2 V c 4 rfl, before2 V c 5 rfl, before2 V c 6 rfl, before2 V c 7 rfl, before2 V c 8 rfl, before2 V c 9 rfl,
    left2 V c 0 rfl, left2 V c 1 rfl, left2 V c 2 rfl, left2 V c 3 rfl, left2 V c 4 rfl, left2 V c 5 rfl, left2 V c 6 rfl, left2 V c 7 rfl, left2 V c 8 rfl, left2 V c 9 rfl]
  unfold carried
  iintro ⟨⟨⟨%xs, %hxs, HS⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body2_runs c Set.univ (grid2.coords t) _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) ((dat2 V c).before 10 t d10) xs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS HΦ]
  · isplitl [HS]
    · iexists (sums V c (t.val + 1))
      isplitr; · ipureintro; exact fun _ => rfl
      rw [← addTo_sums V c t xs hxs]
      iexact HS
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (out_left V c t d10)
  rw [outAt, ← addTo_sums V c t xs hxs]
  iexact H10

/-- The obligation the pipeline puts on that body. -/
theorem runs2 (c : Dev nD) : BodyObligation (dat2 (F := F) V c) (defs₀ (F := F)) Variants.none () Set.univ := fun t => by
  rw [row2]
  exact triple_restated (holds2 V c t) rfl .rfl fun _ => .rfl

/-- The call is entered with its scratch buffer at anything: before the first point nothing more is asked. -/
theorem enter2 (c : Dev nD) : (Pipeline.ΦA spec2 c : sProp 𝕄) ⊢ (dat2 V c).Φ 0 := by
  unfold Pipeline.ΦA
  rw [scopedRest2_split, show (dat2 V c).Φ 0 = iprop(carried V c 0 ∗ Pipeline.scopedRestBut spec2 c [cc2_scratch0] ∗ ∃ r, prngReg c r) from rfl]
  unfold carried
  iintro ⟨⟨⟨%f, Hf⟩, Hr⟩, Hp⟩
  isplitl [Hf]
  · iexists f
    isplitr; · ipureintro; exact fun h => absurd rfl h
    rw [owns_whole]; iexact Hf
  isplitl [Hr]; · iexact Hr
  iexact Hp

/-- It is left with the scratch buffer at the last sums, which nobody reads. -/
theorem leave2 (c : Dev nD) (t : Fin (cfg2.N + 1)) : (dat2 V c).Φ t ⊢ (Pipeline.ΦA spec2 c : sProp 𝕄) := by
  unfold Pipeline.ΦA
  rw [scopedRest2_split, show (dat2 V c).Φ t = iprop(carried V c t.val ∗ Pipeline.scopedRestBut spec2 c [cc2_scratch0] ∗ ∃ r, prngReg c r) from rfl]
  unfold carried
  iintro ⟨⟨%xs, -, Hf⟩, Hr, Hp⟩
  isplitl [Hf Hr]
  · isplitl [Hf]
    · iexists xs
      rw [owns_whole]
      exact .rfl
    iexact Hr
  iexact Hp

end Regions

end Cert.Kernel.Steps

end
-- ==== Proof.Run.lean ====
/- The whole program run: three kernel calls with host operations before, between and after them. `run_ends` says that
   every run terminates without a fault, that every buffer of the program's own ends at the contents `W7` tracks through the
   seven pieces, and that every semaphore ends at zero. -/
module

public import proofs.«01_k».proof.Proof.Fold
public import proofs.«01_k».proof.Proof.Gen.Kernel.Regions

@[expose] public section

set_option maxRecDepth 16384

noncomputable section

namespace Cert.Kernel.Steps

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents between the pieces -/

/-- A valuation read at the core's own references: what a kernel call's data take. -/
abbrev atRefs (W : Dev nD → Valuation τ sig (Elt F)) : (c : Dev nD) → (b : Ref sig .tc) → Buf (Elt F) ((c : Thread nD τ).loc b) :=
  fun c b => W c b

/-- At launch; -/
abbrev W0 : Dev nD → Valuation τ sig (Elt F) := fun c b => m ((c : Dev nD), b)
/-- after the first host operations; -/
abbrev W1 : Dev nD → Valuation τ sig (Elt F) := fun c => StableHlo.after hostOps0 (W0 m c)
/-- after the first call, whose arrays hold what its blocks wrote back; -/
def W2 (c : Dev nD) : Valuation τ sig (Elt F) :=
  Pipeline.withArrays spec0 c (W1 m c) fun w => (dat0 (atRefs (W1 m)) c).arrAt w cfg0.N
/-- after the next host operations; -/
abbrev W3 : Dev nD → Valuation τ sig (Elt F) := fun c => StableHlo.after hostOps1 (W2 m c)
/-- after the second call; -/
def W4 (c : Dev nD) : Valuation τ sig (Elt F) :=
  Pipeline.withArrays spec1 c (W3 m c) fun w => (dat1 (atRefs (W3 m)) c).arrAt w cfg1.N
/-- after the next host operations; -/
abbrev W5 : Dev nD → Valuation τ sig (Elt F) := fun c => StableHlo.after hostOps2 (W4 m c)
/-- after the third call; -/
def W6 (c : Dev nD) : Valuation τ sig (Elt F) :=
  Pipeline.withArrays spec2 c (W5 m c) fun w => (dat2 (atRefs (W5 m)) c).arrAt w cfg2.N
/-- at the end. -/
abbrev W7 : Dev nD → Valuation τ sig (Elt F) := fun c => StableHlo.after hostOps3 (W6 m c)

/-- The first call leaves in each array it windows what its write-backs made of it; -/
theorem W2_arr (c : Dev nD) (w : Fin cfg0.W) :
    W2 m c (Proc.devRef .tc (Pipeline.arrRef spec0 w)) = (dat0 (atRefs (W1 m)) c).arrAt w cfg0.N := by
  unfold W2; exact (dat0 (atRefs (W1 m)) c).withArrays_arrAt launch0.to₀.sharedIn _ (dat0_A (atRefs (W1 m)) c) w
/-- so does the second; -/
theorem W4_arr (c : Dev nD) (w : Fin cfg1.W) :
    W4 m c (Proc.devRef .tc (Pipeline.arrRef spec1 w)) = (dat1 (atRefs (W3 m)) c).arrAt w cfg1.N := by
  unfold W4; exact (dat1 (atRefs (W3 m)) c).withArrays_arrAt launch₀1.sharedIn _ (dat1_A (atRefs (W3 m)) c) w
/-- so does the third. -/
theorem W6_arr (c : Dev nD) (w : Fin cfg2.W) :
    W6 m c (Proc.devRef .tc (Pipeline.arrRef spec2 w)) = (dat2 (atRefs (W5 m)) c).arrAt w cfg2.N := by
  unfold W6; exact (dat2 (atRefs (W5 m)) c).withArrays_arrAt launch₀2.sharedIn _ (dat2_A (atRefs (W5 m)) c) w

/-- A buffer that is no array of the first call is as before it; -/
theorem W2_else (c : Dev nD) (b : Ref sig .tc) (hb : ∀ w, Pipeline.arrRef spec0 w ≠ b) : W2 m c (Proc.devRef .tc b) = W1 m c (Proc.devRef .tc b) := by
  unfold W2; exact Pipeline.withArrays_of_ne spec0 c _ _ b hb
/-- of the second; -/
theorem W4_else (c : Dev nD) (b : Ref sig .tc) (hb : ∀ w, Pipeline.arrRef spec1 w ≠ b) : W4 m c (Proc.devRef .tc b) = W3 m c (Proc.devRef .tc b) := by
  unfold W4; exact Pipeline.withArrays_of_ne spec1 c _ _ b hb
/-- of the third. -/
theorem W6_else (c : Dev nD) (b : Ref sig .tc) (hb : ∀ w, Pipeline.arrRef spec2 w ≠ b) : W6 m c (Proc.devRef .tc b) = W5 m c (Proc.devRef .tc b) := by
  unfold W6; exact Pipeline.withArrays_of_ne spec2 c _ _ b hb

/-- A buffer the first call does not write back to is as before it: an input's array never changes. -/
theorem W2_keep (c : Dev nD) (b : Ref sig .tc) (hb : ∀ w : Fin cfg0.W, Pipeline.arrRef spec0 w = b → (cfg0.win w).isOut = false) :
    W2 m c (Proc.devRef .tc b) = W1 m c (Proc.devRef .tc b) := by
  by_cases hw : ∃ w : Fin cfg0.W, Pipeline.arrRef spec0 w = b
  · obtain ⟨w, rfl⟩ := hw
    exact (W2_arr m c w).trans (((dat0 _ c).arrAt_in w (hb w rfl) _).trans (dat0_A _ c w))
  · exact W2_else m c b fun w e => hw ⟨w, e⟩
/-- The same of the second call, -/
theorem W4_keep (c : Dev nD) (b : Ref sig .tc) (hb : ∀ w : Fin cfg1.W, Pipeline.arrRef spec1 w = b → (cfg1.win w).isOut = false) :
    W4 m c (Proc.devRef .tc b) = W3 m c (Proc.devRef .tc b) := by
  by_cases hw : ∃ w : Fin cfg1.W, Pipeline.arrRef spec1 w = b
  · obtain ⟨w, rfl⟩ := hw
    exact (W4_arr m c w).trans (((dat1 _ c).arrAt_in w (hb w rfl) _).trans (dat1_A _ c w))
  · exact W4_else m c b fun w e => hw ⟨w, e⟩
/-- and of the third. -/
theorem W6_keep (c : Dev nD) (b : Ref sig .tc) (hb : ∀ w : Fin cfg2.W, Pipeline.arrRef spec2 w = b → (cfg2.win w).isOut = false) :
    W6 m c (Proc.devRef .tc b) = W5 m c (Proc.devRef .tc b) := by
  by_cases hw : ∃ w : Fin cfg2.W, Pipeline.arrRef spec2 w = b
  · obtain ⟨w, rfl⟩ := hw
    exact (W6_arr m c w).trans (((dat2 _ c).arrAt_in w (hb w rfl) _).trans (dat2_A _ c w))
  · exact W6_else m c b fun w e => hw ⟨w, e⟩

/-- A host operation's result aside, a buffer keeps its contents across the host operations. -/
theorem W1_keep (c : Dev nD) (r : Ref sig .tc) (h : r ∉ hostOps0_W) : W1 m c (Proc.devRef .tc r) = W0 m c (Proc.devRef .tc r) :=
  StableHlo.after_of_writes_sub hostOps0 _ hostOps0_writes h
/-- The same across the host operations before the second call, -/
theorem W3_keep (c : Dev nD) (r : Ref sig .tc) (h : r ∉ hostOps1_W) : W3 m c (Proc.devRef .tc r) = W2 m c (Proc.devRef .tc r) :=
  StableHlo.after_of_writes_sub hostOps1 _ hostOps1_writes h
/-- before the third, -/
theorem W5_keep (c : Dev nD) (r : Ref sig .tc) (h : r ∉ hostOps2_W) : W5 m c (Proc.devRef .tc r) = W4 m c (Proc.devRef .tc r) :=
  StableHlo.after_of_writes_sub hostOps2 _ hostOps2_writes h
/-- and after it. -/
theorem W7_keep (c : Dev nD) (r : Ref sig .tc) (h : r ∉ hostOps3_W) : W7 m c (Proc.devRef .tc r) = W6 m c (Proc.devRef .tc r) :=
  StableHlo.after_of_writes_sub hostOps3 _ hostOps3_writes h

/-- The twelve arguments. -/
def args : List (Ref sig .tc) :=
  [main_arg0, main_arg1, main_arg2, main_arg3, main_arg4, main_arg5, main_arg6, main_arg7, main_arg8, main_arg9, main_arg10, main_arg11]

/-- No host operation writes an argument. -/
theorem args_host : ∀ a ∈ args, a ∉ hostOps0_W ∧ a ∉ hostOps1_W ∧ a ∉ hostOps2_W ∧ a ∉ hostOps3_W := by
  unfold args; decide +kernel
/-- No call has an argument as an output's array. -/
theorem args_in : ∀ a ∈ args, (∀ w : Fin 6, Pipeline.arrRef spec0 w = a → (cfg0.win w).isOut = false)
    ∧ (∀ w : Fin 11, Pipeline.arrRef spec1 w = a → (cfg1.win w).isOut = false)
    ∧ (∀ w : Fin 11, Pipeline.arrRef spec2 w = a → (cfg2.win w).isOut = false) := by
  unfold args; decide +kernel

/-- Before the second call an argument is as launched, -/
theorem W3_args (c : Dev nD) (a : Ref sig .tc) (h : a ∈ args) : W3 m c (Proc.devRef .tc a) = m ((c : Thread nD τ).loc a) :=
  (W3_keep m c a (args_host a h).2.1).trans ((W2_keep m c a (args_in a h).1).trans (W1_keep m c a (args_host a h).1))
/-- before the third, -/
theorem W5_args (c : Dev nD) (a : Ref sig .tc) (h : a ∈ args) : W5 m c (Proc.devRef .tc a) = m ((c : Thread nD τ).loc a) :=
  (W5_keep m c a (args_host a h).2.2.1).trans ((W4_keep m c a (args_in a h).2.1).trans (W3_args m c a h))
/-- and at the end. -/
theorem W7_args (c : Dev nD) (a : Ref sig .tc) (h : a ∈ args) : W7 m c (Proc.devRef .tc a) = m ((c : Thread nD τ).loc a) :=
  (W7_keep m c a (args_host a h).2.2.2).trans ((W6_keep m c a (args_in a h).2.2).trans (W5_args m c a h))

/-! # The pieces as segments of a run -/

/-- No call has a table fetched ahead. -/
abbrev adm : (p : Fin 3) → (pcfgs (F := F) p).Adm := fun p => (cfgs p).toPCfg_adm

/-- Each call's data at the contents it is entered with. -/
def pdats : (p : Fin 3) → (c : Dev nD) → Dat τ (Elt F) Unit ℕ (UR sig nD τ) ℕ (Pipeline.pin (pcfgs (F := F)) adm p) c
  | ⟨0, _⟩ => fun c => dat0 (atRefs (W1 m)) c
  | ⟨1, _⟩ => fun c => dat1 (atRefs (W3 m)) c
  | ⟨2, _⟩ => fun c => dat2 (atRefs (W5 m)) c

/-- No core owes another anything. -/
abbrev L : GSem nD τ sig → Finset Unit := fun _ => ∅
/-- No level is needed where nothing is owed. -/
abbrev lv : GSem nD τ sig → Unit → ℕ := fun _ _ => 0

/-- What goes through every segment beside the buffers: the generator's register and an account of nothing owed. -/
abbrev Rest (c : Dev nD) : sProp 𝕄 := iprop((∃ r, prngReg c r) ∗ ∃ W, owes (c : Thread nD τ) (0 : CellTallies nD τ sig Unit) W)

/-- The state between segments: every buffer of the program's own at `W`, and the rest. -/
abbrev at_ (W : Dev nD → Valuation τ sig (Elt F)) (c : Dev nD) : sProp 𝕄 :=
  iprop(StableHlo.held (c : Thread nD τ) (Pipeline.ucRefs τ sig) (W c) ∗ Rest c)

/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

-- the library's lemmas are stated over a pinned configuration, found by unfolding plain definitions in types
set_option backward.isDefEq.respectTransparency.types false in
/-- A kernel call as a segment, from the contents `W` to the contents `W'`. -/
def rseg (p : Fin 3) (lf : Pipeline.LaunchFacts₀ (nD := nD) (τ := τ) cfgs p) (W W' : Dev nD → Valuation τ sig (Elt F))
    (hbody : ∀ c, BodyObligation (pdats m p c) (defs₀ (F := F)) Variants.none () Set.univ)
    (howed : ∀ c t, (pdats m p c).owed t = 0)
    (hrec : ∀ c x, x ∈ (pdats m p c).recorded 0)
    (hq : ∀ c w, (pdats m p c).q w = Pipeline.shareOf (cfgs p).spec w)
    (hA : ∀ c w, (pdats m p c).A w = atRefs W c (Pipeline.arrRef (cfgs p).spec w))
    (hF : ∀ c w, (pdats m p c).arrAt w (cfgs p).N = atRefs W' c (Pipeline.arrRef (cfgs p).spec w))
    (hrest : ∀ c b, b ∉ Finset.univ.image (Pipeline.arrRef (cfgs p).spec) → atRefs W' c b = atRefs W c b)
    (henter : ∀ c, (Pipeline.ΦA (cfgs p).spec c : sProp 𝕄) ⊢ (pdats m p c).Φ 0)
    (hleave : ∀ c, (pdats m p c).Φ (Fin.last _) ⊢ (Pipeline.ΦA (cfgs p).spec c : sProp 𝕄)) :
    Pipeline.RegionSeg (pcfgs (F := F)) adm (pdats m) () defs₀ Variants.none L lv p where
  win := lf.win
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := at_ W
  post := at_ W'
  X c := iprop(∃ r, prngReg c r)
  Y c := iprop(∃ r, prngReg c r)
  Z c := Pipeline.unscopedRest (Ix := Unit) (Name := ℕ) (U := UR sig nD τ) (Lvl := ℕ) (cfgs p).spec c (atRefs W c)
  hentry c := by
    rw [Pipeline.ownSems0_none]
    have hsplit := Pipeline.arrays_of_unscopedBufs_shared (p := p) (pcfgs (F := F)) adm (pdats m) lf.win lf.sharedIn lf.arr_whole c
      (fun w _ => hq c w) (atRefs W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c _)
      iexact HO
    isplitl [Hp]; · iexact Hp
    iexact Hrest
  hin c := by
    refine BIBase.Entails.trans ?_ (henter c)
    unfold Pipeline.ΦA
    iintro ⟨Hp, -, Hr⟩
    isplitl [Hr]; · iexact Hr
    iexact Hp
  hout c := by
    rw [Pipeline.ownSems0_none]
    refine BIBase.Entails.trans (hleave c) ?_
    unfold Pipeline.ΦA
    iintro ⟨Hr, Hp⟩
    isplitl [Hp]; · iexact Hp
    isplitr; · iempintro
    iexact Hr
  hexit c := by
    have hjoin := Pipeline.unscopedBufs_of_arrays_shared (p := p) (pcfgs (F := F)) adm (Ix := Unit) (Name := ℕ) (U := UR sig nD τ) (Lvl := ℕ)
      lf.win lf.sharedIn lf.arr_whole c (pdats m) (fun w _ => hq c w)
      (atRefs W c) (atRefs W' c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- The first call; -/
def call0 : Pipeline.RegionSeg (pcfgs (F := F)) adm (pdats m) () defs₀ Variants.none L lv 0 :=
  rseg m 0 launch0.to₀ (W1 m) (W2 m) (runs0 (atRefs (W1 m))) (fun _ _ => rfl) (fun _ _ => trivial) (fun _ _ => rfl)
    (dat0_A (atRefs (W1 m))) (fun c w => (W2_arr m c w).symm)
    (fun c b hb => W2_else m c b fun w e => hb (Finset.mem_image.mpr ⟨w, Finset.mem_univ _, e⟩)) (fun _ => .rfl) (fun _ => .rfl)
/-- the second; -/
def call1 : Pipeline.RegionSeg (pcfgs (F := F)) adm (pdats m) () defs₀ Variants.none L lv 1 :=
  rseg m 1 launch₀1 (W3 m) (W4 m) (runs1 (atRefs (W3 m))) (fun _ _ => rfl) (fun _ _ => trivial) (fun _ _ => rfl)
    (dat1_A (atRefs (W3 m))) (fun c w => (W4_arr m c w).symm)
    (fun c b hb => W4_else m c b fun w e => hb (Finset.mem_image.mpr ⟨w, Finset.mem_univ _, e⟩)) (fun _ => .rfl) (fun _ => .rfl)
/-- the third. -/
def call2 : Pipeline.RegionSeg (pcfgs (F := F)) adm (pdats m) () defs₀ Variants.none L lv 2 :=
  rseg m 2 launch₀2 (W5 m) (W6 m) (runs2 (atRefs (W5 m))) (fun _ _ => rfl) (fun _ _ => trivial) (fun _ _ => rfl)
    (dat2_A (atRefs (W5 m))) (fun c w => (W6_arr m c w).symm)
    (fun c b hb => W6_else m c b fun w e => hb (Finset.mem_image.mpr ⟨w, Finset.mem_univ _, e⟩)) (enter2 _) (fun c => leave2 _ c _)

/-- The seven pieces in order. -/
abbrev segs : List (Pipeline.Seg (pcfgs (F := F)) adm (pdats m) () defs₀ Variants.none L lv) :=
  [ .host (hseg hostOps0 hostOps0_sub hostOps0_fresh (W0 m)), .region (call0 m),
    .host (hseg hostOps1 hostOps1_sub hostOps1_fresh (W2 m)), .region (call1 m),
    .host (hseg hostOps2 hostOps2_sub hostOps2_fresh (W4 m)), .region (call2 m),
    .host (hseg hostOps3 hostOps3_sub hostOps3_fresh (W6 m)) ]

/-- The program is their run. -/
theorem main_pieces (c : Dev nD) : main (F := F) c = Pipeline.Seg.run (segs m) := (main_chain c).trans (by chain_rfl)

/-- Every semaphore is some call's own. -/
theorem sems_scoped : ∀ sm : SemLoc sig, sm.isScoped .tc = true := by decide

/-- A buffer of the program's own is among those held between the segments. -/
theorem mem_own (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: whatever follows from every own buffer being at `W7` and every semaphore at zero holds of every final
    state, and every run ends. -/
theorem run_ends (Q : PUnit.{1} × MemSt nD τ sig (Elt F) → Prop)
    (hQ : ∀ r, (∀ c : Dev nD, ∀ b ∈ Pipeline.ucRefs τ sig, r.2.mem (c, b) = W7 m c b) → r.2.sem = (fun _ => 0) → Q r) :
    θ_run defs (onTc (τ := τ) (main (F := F))) ⟨m, fun _ => 0, ρ⟩ Q :=
  Pipeline.θ_run_regions_kit_sems (pcfgs (F := F)) adm (pdats m) () launch0.cellOf_inj emb₁ defs₀ Variants.none L lv m ρ main (segs m)
    (fun c Q => by rw [main_pieces m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs launch0.cellOf_inj) (Pipeline.launchToks cfgs launch0.cellOf_inj))
    (hu₀ := by
      iintro Hu; imodintro
      isplitl [Hu]
      · iapply (show (ownU (initOf (Pipeline.cells cfgs launch0.cellOf_inj) (Pipeline.launchToks cfgs launch0.cellOf_inj)) : sProp 𝕄)
            ⊢ BI.own (emb₁ (initOf (Pipeline.cells cfgs launch0.cellOf_inj) (Pipeline.launchToks cfgs launch0.cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show at_ (W7 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => hQ _ h (funext fun g => hz g (.inr (sems_scoped g.2))))

/-- Every argument ends as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  run_ends m ρ _ fun r h hz => ⟨fun c => by
    have h' : ∀ a ∈ args, ¬ (Proc.devRef .tc a : DevRef τ sig).isScoped → r.2.mem ((c.tc : Thread nD τ).loc a) = m ((c.tc : Thread nD τ).loc a) :=
      fun a ha hs => (h c _ (mem_own a hs)).trans (W7_args m c a ha)
    exact ⟨h' main_arg0 (by decide) (by decide), h' main_arg1 (by decide) (by decide), h' main_arg2 (by decide) (by decide), h' main_arg3 (by decide) (by decide), h' main_arg4 (by decide) (by decide), h' main_arg5 (by decide) (by decide),
      h' main_arg6 (by decide) (by decide), h' main_arg7 (by decide) (by decide), h' main_arg8 (by decide) (by decide), h' main_arg9 (by decide) (by decide), h' main_arg10 (by decide) (by decide), h' main_arg11 (by decide) (by decide)⟩, hz⟩

end Cert.Kernel.Steps

end
-- ==== Proof.Math.lean ====
/- The mathematics of one attention head, free of the two programs: the kernel's softmax with its early shift and its
   powers of two, the reference's masked softmax, and why the two weigh the rows alike. -/
module

public import Idealize.ShloMosaic.PureOps.Ideal

@[expose] public section

noncomputable section

namespace Cert.Attention

open Idealize.ShloMosaic

/-! ### Columns that are real throughout, or one infinity throughout -/

/-- A family is uniform when it is real everywhere, or `⊤` everywhere, or `⊥` everywhere. A bias that is infinite makes a
    whole column infinite, and nothing in the two programs mixes the three. -/
def Uniform {ι : Type*} (f : ι → EReal) : Prop := (∃ r : ι → ℝ, f = fun i => (r i : EReal)) ∨ (f = fun _ => ⊤) ∨ (f = fun _ => ⊥)

/-- A constant family is uniform. -/
theorem Uniform.const {ι : Type*} (x : EReal) : Uniform (fun _ : ι => x) := by
  induction x with
  | bot => exact .inr (.inr rfl)
  | top => exact .inr (.inl rfl)
  | coe r => exact .inl ⟨fun _ => r, rfl⟩

/-- A function that is real on the reals keeps a family uniform. -/
theorem Uniform.map {ι : Type*} {f : ι → EReal} (hf : Uniform f) (g : EReal → EReal) (hg : ∀ r : ℝ, ∃ s : ℝ, g r = s) :
    Uniform (fun i => g (f i)) := by
  rcases hf with ⟨r, rfl⟩ | rfl | rfl
  · choose s hs using hg
    exact .inl ⟨fun i => s (r i), funext fun i => hs (r i)⟩
  · exact Uniform.const _
  · exact Uniform.const _

/-- The sum of two uniform families is uniform. -/
theorem Uniform.add {ι : Type*} {f g : ι → EReal} (hf : Uniform f) (hg : Uniform g) : Uniform (fun i => f i + g i) := by
  rcases hf with ⟨r, rfl⟩ | rfl | rfl
  · rcases hg with ⟨s, rfl⟩ | rfl | rfl
    · exact .inl ⟨fun i => r i + s i, funext fun i => (EReal.coe_add _ _).symm⟩
    · exact .inr (.inl (funext fun i => EReal.coe_add_top _))
    · exact .inr (.inr (funext fun i => EReal.add_bot _))
  · rcases hg with ⟨s, rfl⟩ | rfl | rfl
    · exact .inr (.inl (funext fun i => EReal.top_add_coe _))
    · exact Uniform.const _
    · exact Uniform.const _
  · exact .inr (.inr (funext fun i => EReal.bot_add _))

/-- A finite sum of uniform families is uniform. -/
theorem Uniform.sum {ι κ : Type*} (S : Finset κ) {f : κ → ι → EReal} (hf : ∀ k, Uniform (f k)) : Uniform (fun i => ∑ k ∈ S, f k i) := by
  classical
  induction S using Finset.induction_on with
  | empty => simpa using Uniform.const 0
  | insert a S ha ih => simpa only [Finset.sum_insert ha] using (hf a).add ih

/-- A uniform family times a real is uniform. -/
theorem Uniform.mul_coe {ι : Type*} {f : ι → EReal} (hf : Uniform f) (c : ℝ) : Uniform (fun i => f i * (c : EReal)) :=
  hf.map (· * (c : EReal)) fun r => ⟨r * c, (EReal.coe_mul _ _).symm⟩

/-- A real times a uniform family is uniform. -/
theorem Uniform.coe_mul {ι : Type*} {f : ι → EReal} (hf : Uniform f) (c : ℝ) : Uniform (fun i => (c : EReal) * f i) :=
  hf.map ((c : EReal) * ·) fun r => ⟨c * r, (EReal.coe_mul _ _).symm⟩

/-- A finite sum of reals is a real. -/
theorem coe_sum {κ : Type*} (S : Finset κ) (f : κ → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-! ### Maxima -/

/-- The larger of two reals, read in the extended reals. -/
theorem coe_max (a b : ℝ) : ((max a b : ℝ) : EReal) = max (a : EReal) b := EReal.coe_strictMono.monotone.map_max

/-- The greatest of a constant family, taken from `⊥`, is the constant. -/
theorem fold_max_const {n : ℕ} [NeZero n] (x : EReal) : (Finset.univ : Finset (Fin n)).fold max ⊥ (fun _ => x) = x := by
  refine le_antisymm (Finset.fold_max_le _ |>.2 ⟨bot_le, fun _ _ => le_rfl⟩) ?_
  exact Finset.le_fold_max _ |>.2 (.inr ⟨0, Finset.mem_univ _, le_rfl⟩)

/-- The greatest of a family of reals, taken from `⊥`, is a real. -/
theorem fold_max_coe {n : ℕ} [NeZero n] (f : Fin n → ℝ) : ∃ r : ℝ, (Finset.univ : Finset (Fin n)).fold max ⊥ (fun j => (f j : EReal)) = r := by
  have hlo : (f 0 : EReal) ≤ (Finset.univ : Finset (Fin n)).fold max ⊥ (fun j => (f j : EReal)) :=
    Finset.le_fold_max _ |>.2 (.inr ⟨0, Finset.mem_univ _, le_rfl⟩)
  have hhi : (Finset.univ : Finset (Fin n)).fold max ⊥ (fun j => (f j : EReal)) < ⊤ :=
    Finset.fold_max_lt _ |>.2 ⟨bot_lt_top, fun j _ => EReal.coe_lt_top _⟩
  generalize (Finset.univ : Finset (Fin n)).fold max ⊥ (fun j => (f j : EReal)) = y at hlo hhi
  induction y with
  | bot => simp at hlo
  | top => simp at hhi
  | coe r => exact ⟨r, rfl⟩

/-- The greatest of a family that is `⊥` or at most one real, taken from `⊥`, is below `⊤`. -/
theorem fold_max_ne_top {n : ℕ} (f : Fin n → EReal) (h : ∀ j, f j < ⊤) : (Finset.univ : Finset (Fin n)).fold max ⊥ f < ⊤ :=
  Finset.fold_max_lt _ |>.2 ⟨bot_lt_top, fun j _ => h j⟩

/-! ### One head, as the kernel and as the reference compute it -/

section
variable {n : ℕ}

/-- The kernel's weight of row `j` before it is divided: a power of two, shifted by the greatest a row's logit can be. -/
def weightK (lam slam src : EReal) (dst adj : Fin n → EReal) (j : Fin n) : EReal :=
  Ideal.exp2 (max (lam * (src - max (src + (Finset.univ : Finset (Fin n)).fold max ⊥ dst) 0) + lam * dst j)
    (slam * src - lam * max (src + (Finset.univ : Finset (Fin n)).fold max ⊥ dst) 0 + slam * dst j)) * adj j

/-- The kernel's head at one row and one column: the row's own entry and the weighted column, nothing added where the
    weights sum to zero. -/
def headK (lam slam src : EReal) (dst adj h : Fin n → EReal) (own : EReal) : EReal :=
  own + if 0 < ∑ j, weightK lam slam src dst adj j then
    ∑ j, weightK lam slam src dst adj j
      * Ideal.div 1 (if 0 < ∑ j, weightK lam slam src dst adj j then ∑ j, weightK lam slam src dst adj j else 1) * h j
  else 0

/-- The leaky rectifier of slope `s`. -/
def leaky (s x : EReal) : EReal := if 0 < x then x else s * x

open Classical in
/-- The reference's weight of row `j` before it is divided: the exponential shifted by the greatest masked logit, zero off
    the mask. -/
def weightR (big : EReal) (e adj : Fin n → EReal) (j : Fin n) : EReal :=
  if adj j = 1 then
    Ideal.exp ((if adj j = 1 then e j else big) - (Finset.univ : Finset (Fin n)).fold max ⊥ (fun k => if adj k = 1 then e k else big))
  else 0

open Classical in
/-- The reference's head at one row and one column. -/
def headR (big : EReal) (e adj h : Fin n → EReal) (own : EReal) : EReal :=
  if ∃ j, adj j = 1 then
    own + ∑ j, Ideal.div (weightR big e adj j) (if 0 < ∑ j, weightR big e adj j then ∑ j, weightR big e adj j else 1) * h j
  else own

/-- Two to the larger of the two lines is the exponential of the leaky logit less the shift. -/
theorem two_pow_lines (s x d c : ℝ) (h0 : 0 < s) (h1 : s ≤ 1) :
    Real.rpow 2 (max ((Real.log 2)⁻¹ * (x - c) + (Real.log 2)⁻¹ * d) (s * (Real.log 2)⁻¹ * x - (Real.log 2)⁻¹ * c + s * (Real.log 2)⁻¹ * d))
      = Real.exp ((if 0 < x + d then x + d else s * (x + d)) - c) := by
  have hL : 0 < Real.log 2 := Real.log_pos (by norm_num)
  rw [Real.rpow_eq_pow, Real.rpow_def_of_pos (by norm_num), mul_max_of_nonneg _ _ hL.le]
  have e1 : Real.log 2 * ((Real.log 2)⁻¹ * (x - c) + (Real.log 2)⁻¹ * d) = (x + d) - c := by field_simp; ring
  have e2 : Real.log 2 * (s * (Real.log 2)⁻¹ * x - (Real.log 2)⁻¹ * c + s * (Real.log 2)⁻¹ * d) = s * (x + d) - c := by field_simp; ring
  rw [e1, e2, max_sub_sub_right]
  congr 2
  split
  · exact max_eq_left (by nlinarith)
  · exact max_eq_right (by nlinarith)

/-- Shifting the exponents by `c` does not change the share of row `j`. -/
theorem share_shift (l a : Fin n → ℝ) (c t : ℝ) (j : Fin n) :
    Real.exp (l j - c) * a j * (1 / ∑ k, Real.exp (l k - c) * a k) = Real.exp (l j - t) * a j * (1 / ∑ k, Real.exp (l k - t) * a k) := by
  have key : ∀ k, Real.exp (l k - c) * a k = Real.exp (t - c) * (Real.exp (l k - t) * a k) := fun k => by
    rw [← mul_assoc, ← Real.exp_add]; congr 2; ring
  have hne := (Real.exp_pos (t - c)).ne'
  simp_rw [key, ← Finset.mul_sum]
  rw [one_div, one_div, mul_inv, mul_mul_mul_comm, mul_inv_cancel₀ hne, one_mul]

/-- The kernel's head from real weights: the row's own entry and the column weighted by their shares. -/
theorem headK_of_weights (lam slam src : EReal) (dst adj : Fin n → EReal) (w : Fin n → ℝ) (hw : ∀ j, 0 ≤ w j)
    (hk : ∀ j, weightK lam slam src dst adj j = w j) (h : Fin n → EReal) (own : EReal) :
    headK lam slam src dst adj h own = own + ∑ j, ((w j * (1 / ∑ k, w k) : ℝ) : EReal) * h j := by
  unfold headK
  simp only [hk, coe_sum]
  rcases (Finset.sum_nonneg fun j _ => hw j : 0 ≤ ∑ j, w j).lt_or_eq with hD | hD
  · have hD' : (0 : EReal) < ((∑ j, w j : ℝ) : EReal) := by exact_mod_cast hD
    simp only [if_pos hD', Ideal.div_coe hD.ne', one_mul, EReal.coe_mul]
  · have h0 : ∀ j, w j = 0 := fun j => (Finset.sum_eq_zero_iff_of_nonneg fun j _ => hw j).1 hD.symm j (Finset.mem_univ j)
    simp [h0]

/-- The reference's head from real weights, in the same form. -/
theorem headR_of_weights (big : EReal) (e adj : Fin n → EReal) (w : Fin n → ℝ) (hw : ∀ j, 0 ≤ w j)
    (hr : ∀ j, weightR big e adj j = w j) (h : Fin n → EReal) (own : EReal) :
    headR big e adj h own = own + ∑ j, ((w j * (1 / ∑ k, w k) : ℝ) : EReal) * h j := by
  unfold headR
  by_cases hm : ∃ j, adj j = 1
  · rw [if_pos hm]
    simp only [hr, coe_sum]
    rcases (Finset.sum_nonneg fun j _ => hw j : 0 ≤ ∑ j, w j).lt_or_eq with hD | hD
    · have hD' : (0 : EReal) < ((∑ j, w j : ℝ) : EReal) := by exact_mod_cast hD
      simp only [if_pos hD', Ideal.div_coe hD.ne', EReal.coe_mul]
    · have h0 : ∀ j, w j = 0 := fun j => (Finset.sum_eq_zero_iff_of_nonneg fun j _ => hw j).1 hD.symm j (Finset.mem_univ j)
      simp [h0, Ideal.div]
  · rw [if_neg hm]
    have h0 : ∀ j, w j = 0 := fun j => by
      have := hr j
      rw [weightR, if_neg fun hj => hm ⟨j, hj⟩] at this
      exact_mod_cast this.symm
    simp [h0]

/-- With every logit real the two programs' weights are exponentials of the same logits, shifted differently. -/
theorem weights_real [NeZero n] (s x big : ℝ) (h0 : 0 < s) (h1 : s ≤ 1) (d : Fin n → ℝ) (adj : Fin n → EReal)
    (hadj : ∀ j, adj j = 0 ∨ adj j = 1) :
    ∃ (a l : Fin n → ℝ) (c t : ℝ), (∀ j, 0 ≤ a j)
      ∧ (∀ j, weightK (((Real.log 2)⁻¹ : ℝ) : EReal) ((s * (Real.log 2)⁻¹ : ℝ) : EReal) x (fun j => (d j : EReal)) adj j
          = ((Real.exp (l j - c) * a j : ℝ) : EReal))
      ∧ (∀ j, weightR big (fun j => leaky s (x + (d j : EReal))) adj j = ((Real.exp (l j - t) * a j : ℝ) : EReal)) := by
  classical
  let a : Fin n → ℝ := fun j => if adj j = 1 then 1 else 0
  have ha : ∀ j, adj j = (a j : EReal) := fun j => by
    rcases hadj j with h | h <;> simp [a, h]
  let l : Fin n → ℝ := fun j => if 0 < x + d j then x + d j else s * (x + d j)
  have hl : ∀ j, leaky s (x + (d j : EReal)) = (l j : EReal) := fun j => by
    rw [leaky, ← EReal.coe_add]
    by_cases h : 0 < x + d j
    · rw [if_pos (by exact_mod_cast h)]; simp [l, h]
    · rw [if_neg (by exact_mod_cast h), ← EReal.coe_mul]; simp [l, h]
  obtain ⟨m, hm⟩ := fold_max_coe d
  obtain ⟨t, ht⟩ := fold_max_coe fun k => if adj k = 1 then l k else big
  refine ⟨a, l, max (x + m) 0, t, fun j => by by_cases h : adj j = 1 <;> simp [a, h], fun j => ?_, fun j => ?_⟩
  · rw [weightK, hm, ha j, ← EReal.coe_add, ← EReal.coe_zero, ← coe_max]
    simp only [← EReal.coe_add, ← EReal.coe_sub, ← EReal.coe_mul, ← coe_max, Ideal.exp2_coe]
    rw [two_pow_lines s x (d j) _ h0 h1]
  · have e : (fun k => if adj k = 1 then leaky s (x + (d k : EReal)) else (big : EReal)) = fun k => ((if adj k = 1 then l k else big : ℝ) : EReal) :=
      funext fun k => by rw [hl k]; split <;> rfl
    rw [weightR, e, ht]
    by_cases h : adj j = 1
    · simp only [if_pos h, hl j, ← EReal.coe_sub, Ideal.exp_coe, a, mul_one]
    · simp [h, a]

/-- A kernel weight whose two lines are both `⊥` is zero. -/
theorem weightK_zero {lam slam src : EReal} {dst adj : Fin n → EReal} {j : Fin n}
    (h1 : lam * (src - max (src + (Finset.univ : Finset (Fin n)).fold max ⊥ dst) 0) + lam * dst j = ⊥)
    (h2 : slam * src - lam * max (src + (Finset.univ : Finset (Fin n)).fold max ⊥ dst) 0 + slam * dst j = ⊥) :
    weightK lam slam src dst adj j = 0 := by
  rw [weightK, h1, h2, max_self, Ideal.exp2_bot, zero_mul]

/-- With an infinite logit every weight of the kernel is zero. -/
theorem weightK_infinite [NeZero n] (lam slam : ℝ) (hl : 0 < lam) (hs : 0 < slam) (src : EReal) (dst adj : Fin n → EReal)
    (hd : Uniform dst) (hinf : (src = ⊤ ∨ src = ⊥) ∨ ¬ ∃ r : Fin n → ℝ, dst = fun i => (r i : EReal)) (j : Fin n) :
    weightK lam slam src dst adj j = 0 := by
  rcases hd with ⟨r, rfl⟩ | rfl | rfl
  · obtain ⟨m, hm⟩ := fold_max_coe r
    rcases hinf with (rfl | rfl) | h
    · refine weightK_zero ?_ ?_ <;> rw [hm] <;>
        simp [EReal.coe_mul_top_of_pos, EReal.coe_mul_bot_of_pos, hl, hs, EReal.top_sub]
    · refine weightK_zero ?_ ?_ <;> rw [hm] <;>
        simp [EReal.coe_mul_top_of_pos, EReal.coe_mul_bot_of_pos, hl, hs]
    · exact absurd ⟨r, rfl⟩ h
  · induction src with
    | bot => refine weightK_zero ?_ ?_ <;> rw [fold_max_const] <;>
        simp [EReal.coe_mul_top_of_pos, EReal.coe_mul_bot_of_pos, hl, hs]
    | top => refine weightK_zero ?_ ?_ <;> rw [fold_max_const] <;>
        simp [EReal.coe_mul_top_of_pos, EReal.coe_mul_bot_of_pos, hl, hs]
    | coe x => refine weightK_zero ?_ ?_ <;> rw [fold_max_const] <;>
        simp [EReal.coe_mul_top_of_pos, EReal.coe_mul_bot_of_pos, hl, hs]
  · refine weightK_zero ?_ ?_ <;> rw [fold_max_const] <;>
      simp [EReal.coe_mul_top_of_pos, EReal.coe_mul_bot_of_pos, hl, hs]

/-- The leaky rectifier keeps the upper infinity. -/
theorem leaky_top (s : ℝ) : leaky s ⊤ = ⊤ := by simp [leaky]

/-- With a positive slope it keeps the lower one. -/
theorem leaky_bot (s : ℝ) (h0 : 0 < s) : leaky s ⊥ = ⊥ := by simp [leaky, EReal.coe_mul_bot_of_pos h0]

/-- With the same infinite logit in every row every weight of the reference is zero. -/
theorem weightR_infinite [NeZero n] (big : ℝ) (x : EReal) (hx : x = ⊤ ∨ x = ⊥) (adj : Fin n → EReal) (j : Fin n) :
    weightR big (fun _ => x) adj j = 0 := by
  classical
  rw [weightR]
  by_cases hj : adj j = 1
  · rw [if_pos hj, if_pos hj]
    rcases hx with rfl | rfl
    · have : (Finset.univ : Finset (Fin n)).fold max ⊥ (fun k => if adj k = 1 then (⊤ : EReal) else big) = ⊤ :=
        top_le_iff.1 (Finset.le_fold_max _ |>.2 (.inr ⟨j, Finset.mem_univ _, by rw [if_pos hj]⟩))
      rw [this]; simp
    · rw [EReal.bot_sub, Ideal.exp_bot]
  · rw [if_neg hj]

/-- One head: the kernel and the reference weigh the rows alike, by shares that are real and not negative, whatever the
    column they weigh. Only the rows' logits must be uniform and the adjacency zero or one. -/
theorem heads_agree [NeZero n] (s big : ℝ) (h0 : 0 < s) (h1 : s ≤ 1) (src : EReal) (dst adj : Fin n → EReal)
    (hd : Uniform dst) (hadj : ∀ j, adj j = 0 ∨ adj j = 1) :
    ∃ w : Fin n → ℝ, (∀ j, 0 ≤ w j) ∧ ∀ (h : Fin n → EReal) (own : EReal),
      headK (((Real.log 2)⁻¹ : ℝ) : EReal) ((s * (Real.log 2)⁻¹ : ℝ) : EReal) src dst adj h own = own + ∑ j, (w j : EReal) * h j
      ∧ headR big (fun j => leaky s (src + dst j)) adj h own = own + ∑ j, (w j : EReal) * h j := by
  have hL : 0 < (Real.log 2)⁻¹ := inv_pos.2 (Real.log_pos (by norm_num))
  by_cases hinf : (src = ⊤ ∨ src = ⊥) ∨ ¬ ∃ r : Fin n → ℝ, dst = fun i => (r i : EReal)
  · have hsame : ∃ x : EReal, (x = ⊤ ∨ x = ⊥) ∧ (fun j => leaky s (src + dst j)) = fun _ => x := by
      rcases hd with ⟨r, rfl⟩ | rfl | rfl
      · rcases hinf with (rfl | rfl) | h
        · exact ⟨⊤, .inl rfl, funext fun j => by rw [EReal.top_add_coe, leaky_top]⟩
        · exact ⟨⊥, .inr rfl, funext fun j => by rw [EReal.bot_add, leaky_bot s h0]⟩
        · exact absurd ⟨r, rfl⟩ h
      · induction src with
        | bot => exact ⟨⊥, .inr rfl, funext fun j => by rw [EReal.bot_add, leaky_bot s h0]⟩
        | top => exact ⟨⊤, .inl rfl, funext fun j => by rw [EReal.top_add_top, leaky_top]⟩
        | coe x => exact ⟨⊤, .inl rfl, funext fun j => by rw [EReal.coe_add_top, leaky_top]⟩
      · exact ⟨⊥, .inr rfl, funext fun j => by rw [EReal.add_bot, leaky_bot s h0]⟩
    obtain ⟨x, hx, he⟩ := hsame
    refine ⟨fun _ => 0 * (1 / ∑ k : Fin n, 0), fun j => by simp, fun h own => ⟨?_, ?_⟩⟩
    · exact headK_of_weights _ _ _ _ _ (fun _ => 0) (fun _ => le_rfl)
        (fun j => (weightK_infinite _ _ hL (mul_pos h0 hL) src dst adj hd hinf j).trans EReal.coe_zero.symm) h own
    · rw [he]
      exact headR_of_weights _ _ _ (fun _ => 0) (fun _ => le_rfl) (fun j => (weightR_infinite big x hx adj j).trans EReal.coe_zero.symm) h own
  · push Not at hinf
    obtain ⟨⟨ht, hb⟩, r, rfl⟩ := hinf
    lift src to ℝ using ⟨ht, hb⟩
    obtain ⟨a, l, c, t, ha, hk, hr⟩ := weights_real s src big h0 h1 r adj hadj
    have hp : ∀ (u : ℝ) (j : Fin n), 0 ≤ Real.exp (l j - u) * a j := fun u j => mul_nonneg (Real.exp_pos _).le (ha j)
    refine ⟨fun j => Real.exp (l j - c) * a j * (1 / ∑ k, Real.exp (l k - c) * a k),
      fun j => mul_nonneg (hp c j) (one_div_nonneg.2 (Finset.sum_nonneg fun k _ => hp c k)), fun h own => ⟨?_, ?_⟩⟩
    · exact headK_of_weights _ _ _ _ _ (fun j => Real.exp (l j - c) * a j) (hp c) hk h own
    · rw [headR_of_weights _ _ _ (fun j => Real.exp (l j - t) * a j) (hp t) hr h own]
      simp only [share_shift l a c t]

/-- A uniform column plus shares of itself is uniform, the shares real and not negative. -/
theorem Uniform.add_shares {m : Fin n → EReal} (hm : Uniform m) (w : Fin n → Fin n → ℝ) (hw : ∀ i j, 0 ≤ w i j) :
    Uniform (fun i => m i + ∑ j, (w i j : EReal) * m j) := by
  rcases hm with ⟨r, rfl⟩ | rfl | rfl
  · exact .inl ⟨fun i => r i + ∑ j, w i j * r j, funext fun i => by rw [EReal.coe_add, ← coe_sum]; simp only [EReal.coe_mul]⟩
  · refine .inr (.inl (funext fun i => EReal.top_add_of_ne_bot fun hb => ?_))
    have : (0 : EReal) ≤ ∑ j, (w i j : EReal) * ⊤ := Finset.sum_nonneg fun j _ => mul_nonneg (by exact_mod_cast hw i j) le_top
    rw [hb] at this
    exact absurd this (by simp)
  · exact .inr (.inr (funext fun i => EReal.bot_add _))

end

end Cert.Attention

end
-- ==== Proof.Model.lean ====
/- The two-layer network as mathematics, once with the kernel's heads and once with the reference's, and the theorem that
   the two agree on zero-or-one adjacencies with finite features and weights. -/
module

public import proofs.«01_k».proof.Proof.Math

@[expose] public section

noncomputable section

namespace Cert.Attention

open Idealize.ShloMosaic

/-- An extended real that is a real. -/
def IsReal (x : EReal) : Prop := ∃ r : ℝ, x = r

/-- Products of reals are real. -/
theorem IsReal.mul {x y : EReal} (hx : IsReal x) (hy : IsReal y) : IsReal (x * y) := by
  obtain ⟨a, rfl⟩ := hx
  obtain ⟨b, rfl⟩ := hy
  exact ⟨a * b, (EReal.coe_mul _ _).symm⟩

/-- Finite sums of reals are real. -/
theorem IsReal.sum {κ : Type*} (S : Finset κ) {f : κ → EReal} (h : ∀ k, IsReal (f k)) : IsReal (∑ k ∈ S, f k) := by
  choose g hg using h
  exact ⟨∑ k ∈ S, g k, by rw [← coe_sum]; exact Finset.sum_congr rfl fun k _ => hg k⟩

/-- A family of reals is uniform. -/
theorem Uniform.of_real {ι : Type*} {f : ι → EReal} (h : ∀ i, IsReal (f i)) : Uniform f := by
  choose g hg using h
  exact .inl ⟨g, funext hg⟩

/-- The exponential linear unit. -/
def elu (x : EReal) : EReal := if 0 < x then x else Ideal.exp x - 1

/-- The unit is real on the reals. -/
theorem elu_coe (r : ℝ) : ∃ s : ℝ, elu r = s := by
  rw [elu]
  split
  · exact ⟨r, rfl⟩
  · exact ⟨Real.exp r - 1, by rw [Ideal.exp_coe, EReal.coe_sub, EReal.coe_one]⟩

section
variable {n p : ℕ}

/-- A dense layer: the rows `x` times the weights, plus the bias. -/
def dense (x : Fin n → Fin p → EReal) (w : Fin p → Fin 16 → EReal) (b : Fin 16 → EReal) (i : Fin n) (k : Fin 16) : EReal :=
  ∑ l, x i l * w l k + b k

/-- The four heads' rows side by side. -/
def joined (v : Fin 4 → Fin 16 → EReal) (m : Fin 64) : EReal :=
  if h : m.val < 16 then v 0 ⟨m.val, h⟩
  else if h : m.val - 16 < 16 then v 1 ⟨m.val - 16, h⟩
  else if h : m.val - 16 - 16 < 16 then v 2 ⟨m.val - 16 - 16, h⟩
  else v 3 ⟨m.val - 16 - 16 - 16, by omega⟩

/-- A row's own part of a head's logits. -/
def srcOf (h : Fin n → Fin 16 → EReal) (a : Fin 4 → Fin 32 → EReal) (ab : Fin 4 → EReal) (t : Fin 4) (i : Fin n) : EReal :=
  ∑ l : Fin 16, h i l * a t ⟨l.val, by omega⟩ + ab t

/-- The other row's part of a head's logits. -/
def dstOf (h : Fin n → Fin 16 → EReal) (a : Fin 4 → Fin 32 → EReal) (t : Fin 4) (j : Fin n) : EReal :=
  ∑ l : Fin 16, a t ⟨16 + l.val, by omega⟩ * h j l

/-- An attention layer of four heads, as the kernel computes it. -/
def attK (lam slam : EReal) (adj : Fin n → Fin n → EReal) (h : Fin n → Fin 16 → EReal) (a : Fin 4 → Fin 32 → EReal) (ab : Fin 4 → EReal)
    (t : Fin 4) (i : Fin n) (k : Fin 16) : EReal :=
  headK lam slam (srcOf h a ab t i) (dstOf h a t) (adj i) (fun j => h j k) (h i k)

/-- The same layer, as the reference computes it. -/
def attR (s big : EReal) (adj : Fin n → Fin n → EReal) (h : Fin n → Fin 16 → EReal) (a : Fin 4 → Fin 32 → EReal) (ab : Fin 4 → EReal)
    (t : Fin 4) (i : Fin n) (k : Fin 16) : EReal :=
  headR big (fun j => leaky s ((∑ l : Fin 16, h i l * a t ⟨l.val, by omega⟩ + ∑ l : Fin 16, h j l * a t ⟨16 + l.val, by omega⟩) + ab t))
    (adj i) (fun j => h j k) (h i k)

/-- The second layer's input: the heads side by side, through the unit and a dense layer. -/
def second (att : Fin 4 → Fin n → Fin 16 → EReal) (w : Fin 64 → Fin 16 → EReal) (b : Fin 16 → EReal) : Fin n → Fin 16 → EReal :=
  dense (fun i m => elu (joined (fun t l => att t i l) m)) w b

/-- The heads' mean through the unit. -/
def meaned (att : Fin 4 → Fin n → Fin 16 → EReal) (i : Fin n) (k : Fin 16) : EReal :=
  elu ((att 0 i k + att 1 i k + att 2 i k + att 3 i k) * ((1 / 4 : ℝ) : EReal))

/-- The result: the rows' mean times the output weights, plus the output bias. -/
def pooled (att : Fin 4 → Fin n → Fin 16 → EReal) (inv : EReal) (ow : Fin 16 → EReal) (ob : EReal) : EReal :=
  ∑ k, (∑ i, meaned att i k) * inv * ow k + ob

/-- One attention layer: over uniform columns the two programs agree, and the layer's columns are uniform again. -/
theorem att_agree [NeZero n] (s big : ℝ) (h0 : 0 < s) (h1 : s ≤ 1) (adj : Fin n → Fin n → EReal) (hadj : ∀ i j, adj i j = 0 ∨ adj i j = 1)
    (h : Fin n → Fin 16 → EReal) (hh : ∀ k, Uniform fun i => h i k) (a : Fin 4 → Fin 32 → EReal) (ha : ∀ t l, IsReal (a t l)) (ab : Fin 4 → EReal) :
    attK (((Real.log 2)⁻¹ : ℝ) : EReal) ((s * (Real.log 2)⁻¹ : ℝ) : EReal) adj h a ab = attR s big adj h a ab
    ∧ ∀ t k, Uniform fun i => attR s big adj h a ab t i k := by
  choose ar har using ha
  have hd : ∀ t, Uniform (dstOf h a t) := fun t => by
    unfold dstOf
    simp only [har]
    exact Uniform.sum _ fun l => (hh l).coe_mul _
  have he : ∀ t i, (fun j => leaky s ((∑ l : Fin 16, h i l * a t ⟨l.val, by omega⟩ + ∑ l : Fin 16, h j l * a t ⟨16 + l.val, by omega⟩) + ab t))
      = fun j => leaky (s : EReal) (srcOf h a ab t i + dstOf h a t j) := fun t i => funext fun j => by
    rw [srcOf, dstOf, add_right_comm]
    simp only [mul_comm]
  choose w hw hK using fun t i => heads_agree s big h0 h1 (srcOf h a ab t i) (dstOf h a t) (adj i) (hd t) (hadj i)
  refine ⟨funext fun t => funext fun i => funext fun k => ?_, fun t k => ?_⟩
  · rw [attK, attR, he, (hK t i _ _).1, (hK t i _ _).2]
  · have : (fun i => attR s big adj h a ab t i k) = fun i => h i k + ∑ j, (w t i j : EReal) * h j k :=
      funext fun i => by rw [attR, he, (hK t i _ _).2]
    rw [this]
    exact (hh k).add_shares (w t) (hw t)

/-- A dense layer of uniform columns by real weights has uniform columns. -/
theorem dense_uniform (x : Fin n → Fin p → EReal) (hx : ∀ l, Uniform fun i => x i l) (w : Fin p → Fin 16 → EReal) (hw : ∀ l k, IsReal (w l k))
    (b : Fin 16 → EReal) (k : Fin 16) : Uniform fun i => dense x w b i k := by
  choose wr hwr using hw
  unfold dense
  simp only [hwr]
  exact (Uniform.sum _ fun l => (hx l).mul_coe _).add (Uniform.const _)

/-- The heads side by side have uniform columns where the heads have. -/
theorem joined_uniform (att : Fin 4 → Fin n → Fin 16 → EReal) (h : ∀ t k, Uniform fun i => att t i k) (m : Fin 64) :
    Uniform fun i => joined (fun t l => att t i l) m := by
  unfold joined
  split
  · exact h _ _
  split
  · exact h _ _
  split
  · exact h _ _
  · exact h _ _

/-- The whole network: with a zero-or-one adjacency and finite features and weights, whatever the biases and the output
    weights, the kernel's heads and the reference's lead to one result. -/
theorem network_agree [NeZero n] (s big : ℝ) (h0 : 0 < s) (h1 : s ≤ 1) (adj : Fin n → Fin n → EReal) (hadj : ∀ i j, adj i j = 0 ∨ adj i j = 1)
    (x : Fin n → Fin p → EReal) (hx : ∀ i l, IsReal (x i l)) (w1 : Fin p → Fin 16 → EReal) (hw1 : ∀ l k, IsReal (w1 l k)) (b1 : Fin 16 → EReal)
    (a1 : Fin 4 → Fin 32 → EReal) (ha1 : ∀ t l, IsReal (a1 t l)) (ab1 : Fin 4 → EReal) (w2 : Fin 64 → Fin 16 → EReal)
    (hw2 : ∀ l k, IsReal (w2 l k)) (b2 : Fin 16 → EReal) (a2 : Fin 4 → Fin 32 → EReal) (ha2 : ∀ t l, IsReal (a2 t l)) (ab2 : Fin 4 → EReal)
    (inv : EReal) (ow : Fin 16 → EReal) (ob : EReal) :
    pooled (attK (((Real.log 2)⁻¹ : ℝ) : EReal) ((s * (Real.log 2)⁻¹ : ℝ) : EReal) adj
        (second (attK (((Real.log 2)⁻¹ : ℝ) : EReal) ((s * (Real.log 2)⁻¹ : ℝ) : EReal) adj (dense (fun i l => ∑ j, adj i j * x j l) w1 b1) a1 ab1) w2 b2)
        a2 ab2) inv ow ob
      = pooled (attR s big adj (second (attR s big adj (dense (fun i l => ∑ j, adj i j * x j l) w1 b1) a1 ab1) w2 b2) a2 ab2) inv ow ob := by
  have hadjr : ∀ i j, IsReal (adj i j) := fun i j => by
    rcases hadj i j with h | h
    · exact ⟨0, by rw [h, EReal.coe_zero]⟩
    · exact ⟨1, by rw [h, EReal.coe_one]⟩
  have u1 : ∀ k, Uniform fun i => dense (fun i l => ∑ j, adj i j * x j l) w1 b1 i k :=
    dense_uniform _ (fun l => Uniform.of_real fun i => IsReal.sum _ fun j => (hadjr i j).mul (hx j l)) w1 hw1 b1
  obtain ⟨e1, v1⟩ := att_agree s big h0 h1 adj hadj _ u1 a1 ha1 ab1
  have u2 : ∀ k, Uniform fun i => second (attR s big adj (dense (fun i l => ∑ j, adj i j * x j l) w1 b1) a1 ab1) w2 b2 i k :=
    dense_uniform _ (fun m => (joined_uniform _ v1 m).map elu elu_coe) w2 hw2 b2
  rw [e1, (att_agree s big h0 h1 adj hadj _ u2 a2 ha2 ab2).1]

end

end Cert.Attention

end
-- ==== Proof.Tiles.lean ====
/- What a block of the idealized kernel's three bodies holds at an index, in the vocabulary of one attention head. -/
module

public import proofs.«01_k».proof.Proof.Model
public import proofs.«01_k».proof.Proof.Gen.Own.FoldIdeal
public import Idealize.ShloMosaic.Lib.Pointwise

@[expose] public section

set_option maxRecDepth 16384

noncomputable section

namespace Cert.KernelIdeal.Tiles

open Cert.KernelIdeal Cert.KernelIdeal.Gen Cert.KernelIdeal.Steps Cert.Attention Idealize.ShloMosaic
open Idealize.ShloMosaic.Pointwise

/-- 1 / log 2, what the kernel's `log2e` names. -/
def lam : EReal := (((Real.log 2)⁻¹ : ℝ) : EReal)

/-- The rectifier's slope over log 2, what the kernel's `slope_log2e` names. -/
def slam : EReal := (((5368709 / 536870912) * (Real.log 2)⁻¹ : ℝ) : EReal)

/-- The constant `log2e` is 1 / log 2, -/
theorem named_log2e : (Named.named (F := Ideal) κ "log2e" 0x3FB8AA3B#32 : Ideal .f32) = lam := IdealRules.named_const.ideal_named_scalar _ _ _ _ rfl

/-- and `slope_log2e` is the slope over log 2. -/
theorem named_slope : (Named.named (F := Ideal) κ "slope_log2e" 0x3C6C5F04#32 : Ideal .f32) = slam := IdealRules.named_const.ideal_named_scalar _ _ _ _ rfl

/-- The word of the float 1, read as a real, -/
theorem ofBits_one : Ideal.ofBits .f32 0x3F800000#32 = (1 : EReal) := by
  simp [Ideal.ofBits, Ideal.ieee, -EReal.coe_mul]; norm_num

/-- and that of the float −∞. -/
theorem ofBits_bot : Ideal.ofBits .f32 0xFF800000#32 = (⊥ : EReal) := by
  simp [Ideal.ofBits, Ideal.ieee, -EReal.coe_mul]

/-- The exponents' shift in each row: the row's own logit plus the greatest of the others', at least zero. -/
def shift (d : Vec Ideal S1x4096 .f32) (s : Vec Ideal S512x1 .f32) : FVec Ideal S512x1 .f32 :=
  maximumf (addf s (broadcast S512x1 (extractAt ![0, 0, 0] (shapeCast S1x1x1 (multiReduction .maximumf [1, 2] S1
    (shapeCast S1x1x4096 d shapeCasts_S1x4096_S1x1x4096) 0xFF800000#32 reduces_S1x1x4096_S1 (.inl rfl) rfl) shapeCasts_S1_S1x1x1)
    inpos_S1x1x1_p0_0_0))) (broadcast S512x1 (Scalar.ofBits .f32 0x00000000#32))

/-- One head of a block of rows, from its two logit parts. -/
def head (adj : Vec Ideal S512x4096 .f32) (h : FVec Ideal S4096x16 .f32) (hb : FVec Ideal S512x16 .f32) (d : FVec Ideal S1x4096 .f32)
    (s : FVec Ideal S512x1 .f32) : FVec Ideal S512x16 .f32 :=
  k1_pay11 adj h hb d (mulf (broadcast S512x1 (Named.named κ "log2e" 0x3FB8AA3B#32)) (subf s (shift d s)))
    (mulf (broadcast S1x4096 (Named.named κ "log2e" 0x3FB8AA3B#32)) d)
    (subf (mulf (broadcast S512x1 (Named.named κ "slope_log2e" 0x3C6C5F04#32)) s)
      (mulf (broadcast S512x1 (Named.named κ "log2e" 0x3FB8AA3B#32)) (shift d s)))

/-- The greatest over one row of a one-row array is the greatest over its columns. -/
theorem fold_max_row {n : ℕ} (f : Fin n → EReal) :
    (Finset.univ : Finset (Fin 1 × Fin n)).fold max ⊥ (fun x => f x.2) = (Finset.univ : Finset (Fin n)).fold max ⊥ f := by
  refine le_antisymm (Finset.fold_max_le _ |>.2 ⟨bot_le, fun x _ => ?_⟩) (Finset.fold_max_le _ |>.2 ⟨bot_le, fun j _ => ?_⟩)
  · exact Finset.le_fold_max _ |>.2 (.inr ⟨x.2, Finset.mem_univ _, le_rfl⟩)
  · exact Finset.le_fold_max _ |>.2 (.inr ⟨(0, j), Finset.mem_univ _, le_rfl⟩)

/-- The shift read at a row. -/
theorem shift_apply (d : FVec Ideal S1x4096 .f32) (s : FVec Ideal S512x1 .f32) (r : Fin 512) :
    shift d s (ix2 r 0) = max (s (ix2 r 0) + (Finset.univ : Finset (Fin 4096)).fold max ⊥ (fun j => d (ix2 0 j))) 0 := by
  pointwise [shift]
  rw [ofBits_bot, fold_max_row fun j => d (ix2 0 j)]

/-- A head read at a row and a column is the mathematical head of that row's logits. -/
theorem head_apply (adj : Vec Ideal S512x4096 .f32) (h : FVec Ideal S4096x16 .f32) (hb : FVec Ideal S512x16 .f32) (d : FVec Ideal S1x4096 .f32)
    (s : FVec Ideal S512x1 .f32) (r : Fin 512) (k : Fin 16) :
    head adj h hb d s (ix2 r k) = headK lam slam (s (ix2 r 0)) (fun j => d (ix2 0 j)) (fun j => adj (ix2 r j)) (fun j => h (ix2 j k)) (hb (ix2 r k)) := by
  pointwise [head, k1_pay11]
  rw [shift_apply, named_log2e, named_slope]
  rfl

section
variable (x0 : Vec Ideal S512x4096 .f32) (x1 : Vec Ideal S4096x16 .f32) (x2 : Vec Ideal S512x16 .f32) (x3 : Vec Ideal S16x4096 .f32)
  (x4 : Vec Ideal S16x4 .f32) (x5 : Vec Ideal S4x16 .f32) (x6 : Vec Ideal S1x4 .f32)

/-- The fourth head of a block, which the bodies do not store apart. -/
def head3 : FVec Ideal S512x16 .f32 :=
  head x0 (k1_pay1 x1) (k1_pay2 x2) (k1_pay26 (k1_pay4 x3 x5)) (k1_pay27 (k1_pay3 x2 x4 x6))

/-- The four heads of a block of rows. -/
def heads : Fin 4 → FVec Ideal S512x16 .f32 :=
  ![head10 x0 x1 x2 x3 x4 x5 x6, head11 x0 x1 x2 x3 x4 x5 x6, head12 x0 x1 x2 x3 x4 x5 x6, head3 x0 x1 x2 x3 x4 x5 x6]

/-- Each of the four heads, read at a row and a column. -/
theorem heads_apply (t : Fin 4) (r : Fin 512) (k : Fin 16) :
    heads x0 x1 x2 x3 x4 x5 x6 t (ix2 r k)
      = headK lam slam ((∑ l : Fin 16, x2 (ix2 r l) * x4 (ix2 l t)) + x6 (ix2 0 t)) (fun j => ∑ l : Fin 16, x5 (ix2 t l) * x3 (ix2 l j))
          (fun j => x0 (ix2 r j)) (fun j => x1 (ix2 j k)) (x2 (ix2 r k)) := by
  have hs : ∀ t : Fin 4, k1_pay3 x2 x4 x6 (ix2 r t) = (∑ l : Fin 16, x2 (ix2 r l) * x4 (ix2 l t)) + x6 (ix2 0 t) := fun t => by
    pointwise [k1_pay3, k1_pay2]
  have hd : ∀ (t : Fin 4) (j : Fin 4096), k1_pay4 x3 x5 (ix2 t j) = ∑ l : Fin 16, x5 (ix2 t l) * x3 (ix2 l j) := fun t j => by
    pointwise [k1_pay4]
  have h1 : ∀ j : Fin 4096, k1_pay1 x1 (ix2 j k) = x1 (ix2 j k) := fun j => by pointwise [k1_pay1]
  have h2 : k1_pay2 x2 (ix2 r k) = x2 (ix2 r k) := by pointwise [k1_pay2]
  have d0 : ∀ j : Fin 4096, k1_pay5 x3 x5 (ix2 0 j) = k1_pay4 x3 x5 (ix2 0 j) := fun j => by pointwise [k1_pay5]
  have d1 : ∀ j : Fin 4096, k1_pay12 (k1_pay4 x3 x5) (ix2 0 j) = k1_pay4 x3 x5 (ix2 1 j) := fun j => by pointwise [k1_pay12]
  have d2 : ∀ j : Fin 4096, k1_pay19 (k1_pay4 x3 x5) (ix2 0 j) = k1_pay4 x3 x5 (ix2 2 j) := fun j => by pointwise [k1_pay19]
  have d3 : ∀ j : Fin 4096, k1_pay26 (k1_pay4 x3 x5) (ix2 0 j) = k1_pay4 x3 x5 (ix2 3 j) := fun j => by pointwise [k1_pay26]
  have s0 : k1_pay6 x2 x4 x6 (ix2 r 0) = k1_pay3 x2 x4 x6 (ix2 r 0) := by pointwise [k1_pay6]
  have s1 : k1_pay13 (k1_pay3 x2 x4 x6) (ix2 r 0) = k1_pay3 x2 x4 x6 (ix2 r 1) := by pointwise [k1_pay13]
  have s2 : k1_pay20 (k1_pay3 x2 x4 x6) (ix2 r 0) = k1_pay3 x2 x4 x6 (ix2 r 2) := by pointwise [k1_pay20]
  have s3 : k1_pay27 (k1_pay3 x2 x4 x6) (ix2 r 0) = k1_pay3 x2 x4 x6 (ix2 r 3) := by pointwise [k1_pay27]
  match t with
  | 0 => refine (head_apply x0 (k1_pay1 x1) (k1_pay2 x2) (k1_pay5 x3 x5) (k1_pay6 x2 x4 x6) r k).trans ?_
         simp only [s0, d0, h1, h2, hs, hd]
  | 1 => refine (head_apply x0 (k1_pay1 x1) (k1_pay2 x2) (k1_pay12 (k1_pay4 x3 x5)) (k1_pay13 (k1_pay3 x2 x4 x6)) r k).trans ?_
         simp only [s1, d1, h1, h2, hs, hd]
  | 2 => refine (head_apply x0 (k1_pay1 x1) (k1_pay2 x2) (k1_pay19 (k1_pay4 x3 x5)) (k1_pay20 (k1_pay3 x2 x4 x6)) r k).trans ?_
         simp only [s2, d2, h1, h2, hs, hd]
  | 3 => refine (head_apply x0 (k1_pay1 x1) (k1_pay2 x2) (k1_pay26 (k1_pay4 x3 x5)) (k1_pay27 (k1_pay3 x2 x4 x6)) r k).trans ?_
         simp only [s3, d3, h1, h2, hs, hd]

/-- The exponential linear unit, elementwise. -/
def unit {S : Shape} (x : FVec Ideal S .f32) : FVec Ideal S .f32 :=
  select (cmpf .ogt x (broadcast S (Scalar.ofBits .f32 0x00000000#32))) x (subf (exp x) (broadcast S (Scalar.ofBits .f32 0x3F800000#32)))

/-- The second layer's input from the four heads: they stand side by side, pass the unit and meet the second weights. -/
def project (v : Fin 4 → FVec Ideal S512x16 .f32) (x7 : FVec Ideal S64x16 .f32) (x8 : Vec Ideal S1x16 .f32) : FVec Ideal S512x16 .f32 :=
  addf (matmul dot_S512x64_S64x16_S512x16_1_0_0_1_n_n none
      (unit (concatenate S512x64 1 [⟨S512x16, v 0⟩, ⟨S512x16, v 1⟩, ⟨S512x16, v 2⟩, ⟨S512x16, v 3⟩] concatenates_S512x16_S512x16_S512x16_S512x16_S512x64_d1))
      x7 (constant S512x16 .f32 0x00000000#32))
    (broadcastTo S512x16 (shapeCast S1x16 x8 shapeCasts_S1x16_S1x16) broadcasts_S1x16_S512x16)

/-- The second call's block is the projection of its four heads. -/
theorem layer1_eq (x7 : Vec Ideal S64x16 .f32) (x8 : Vec Ideal S1x16 .f32) :
    layer1 x0 x1 x2 x3 x4 x5 x6 x7 x8 = project (heads x0 x1 x2 x3 x4 x5 x6) x7 x8 := rfl

/-- The block's column sums from the four heads: their mean passes the unit and is summed over the block's rows. -/
def colSums (v : Fin 4 → FVec Ideal S512x16 .f32) : FVec Ideal S1x16 .f32 :=
  shapeCast S1x16 (multiReduction .add [0] S16
    (unit (mulf (addf (addf (addf (v 0) (v 1)) (v 2)) (v 3)) (broadcast S512x16 (Scalar.ofBits .f32 0x3E800000#32))))
    0x00000000#32 reduces_S512x16_S16 (.inl rfl) rfl) shapeCasts_S16_S1x16

/-- The third call's partial sums are the column sums of its four heads. -/
theorem rowSums_eq : rowSums x0 x1 x2 x3 x4 x5 x6 = colSums (heads x0 x1 x2 x3 x4 x5 x6) := rfl

end

/-- The word of the float 1/4, read as a real. -/
theorem ofBits_quarter : Ideal.ofBits .f32 0x3E800000#32 = ((1 / 4 : ℝ) : EReal) := by
  simp [Ideal.ofBits, Ideal.ieee, -EReal.coe_mul]; norm_num

/-- A block's column sums, read at a column. -/
theorem colSums_apply (v : Fin 4 → FVec Ideal S512x16 .f32) (k : Fin 16) :
    colSums v (ix2 0 k) = ∑ r : Fin 512, meaned (fun t i l => v t (ix2 i l)) r k := by
  pointwise [colSums, unit]
  rw [ofBits_quarter]
  rfl

/-- A block of the second layer's input, read at a row and a column. -/
theorem project_apply (v : Fin 4 → FVec Ideal S512x16 .f32) (x7 : FVec Ideal S64x16 .f32) (x8 : Vec Ideal S1x16 .f32) (r : Fin 512) (k : Fin 16) :
    project v x7 x8 (ix2 r k) = second (fun t i l => v t (ix2 i l)) (fun m k => x7 (ix2 m k)) (fun k => x8 (ix2 0 k)) r k := by
  pointwise [project, unit]
  rfl

/-- A block of the first dense layer, read at a row and a column. -/
theorem first_apply (x0 : Vec Ideal S512x4096 .f32) (x1 : Vec Ideal S4096x128 .f32) (x2 : Vec Ideal S128x16 .f32) (x3 : Vec Ideal S1x16 .f32)
    (r : Fin 512) (k : Fin 16) :
    k0_pay1 x0 x1 x2 x3 (ix2 r k)
      = dense (fun i l => ∑ j : Fin 4096, x0 (ix2 i j) * x1 (ix2 j l)) (fun l k => x2 (ix2 l k)) (fun k => x3 (ix2 0 k)) r k := by
  pointwise [k0_pay1]
  rfl

/-- Its transpose. -/
theorem firstT_apply (x0 : Vec Ideal S512x4096 .f32) (x1 : Vec Ideal S4096x128 .f32) (x2 : Vec Ideal S128x16 .f32) (x3 : Vec Ideal S1x16 .f32)
    (r : Fin 512) (k : Fin 16) : k0_pay2 x0 x1 x2 x3 (ix2 k r) = k0_pay1 x0 x1 x2 x3 (ix2 r k) := by
  pointwise [k0_pay2]

/-- The second call's other output is the transpose of its first. -/
theorem layer1T_apply (x0 : Vec Ideal S512x4096 .f32) (x1 : Vec Ideal S4096x16 .f32) (x2 : Vec Ideal S512x16 .f32) (x3 : Vec Ideal S16x4096 .f32)
    (x4 : Vec Ideal S16x4 .f32) (x5 : Vec Ideal S4x16 .f32) (x6 : Vec Ideal S1x4 .f32) (x7 : Vec Ideal S64x16 .f32) (x8 : Vec Ideal S1x16 .f32)
    (r : Fin 512) (k : Fin 16) : layer1T x0 x1 x2 x3 x4 x5 x6 x7 x8 (ix2 k r) = layer1 x0 x1 x2 x3 x4 x5 x6 x7 x8 (ix2 r k) := by
  have : layer1T x0 x1 x2 x3 x4 x5 x6 x7 x8 = transpose S16x512 [1, 0] (layer1 x0 x1 x2 x3 x4 x5 x6 x7 x8) transposes_S512x16_p1_0_S16x512 := rfl
  rw [this]
  pointwise

/-- The running sums start from zeros. -/
theorem zeros_apply (k : Fin 16) : k2_pay35 (F := Ideal) (ix2 0 k) = 0 := by
  pointwise [k2_pay35]

/-- One step adds a block's column sums to the running ones. -/
theorem add_apply (p x : Vec Ideal S1x16 .f32) (k : Fin 16) : k2_pay1 p x (ix2 0 k) = x (ix2 0 k) + p (ix2 0 k) := by
  pointwise [k2_pay1]

/-- The last point's result from the sums. -/
theorem last_apply (x : Vec Ideal S1x16 .f32) (inv : Vec Ideal S1x1 .f32) (ow : Vec Ideal S1x16 .f32) (ob : Vec Ideal S1x1 .f32) :
    k2_pay2 x inv ow ob (ix2 0 0) = ∑ k : Fin 16, x (ix2 0 k) * inv (ix2 0 0) * ow (ix2 0 k) + ob (ix2 0 0) := by
  pointwise [k2_pay2]

end Cert.KernelIdeal.Tiles

end
-- ==== Proof.Values.lean ====
/- What the idealized kernel's three calls leave in their output arrays. -/
module

public import proofs.«01_k».proof.Proof.Gen.Own.RunIdeal
public import proofs.«01_k».proof.Proof.Tiles
public import Idealize.ShloMosaic.Lib.Pipeline.ValueKit

@[expose] public section

set_option maxRecDepth 16384

noncomputable section

namespace Cert.KernelIdeal.Values

open Cert.KernelIdeal Cert.KernelIdeal.Gen Cert.KernelIdeal.Steps Cert.KernelIdeal.Tiles Cert.Attention
open Idealize.ShloMosaic Idealize.ShloMosaic.TcCoe Idealize.ShloMosaic.Pointwise

variable (V : (c : Dev nD) → (b : Ref sig .tc) → Buf (Elt Ideal) ((c : Thread nD τ).loc b))

/-- Row `r` of the block of 512 rows that grid point `t` of a call works on. -/
def row (t : Fin 8) (r : Fin 512) : Fin 4096 := ⟨t.val * 512 + r.val, by have := t.isLt; have := r.isLt; omega⟩

/-- Summing block by block is summing over all rows. -/
theorem sum_rows (f : Fin 4096 → EReal) : ∑ p : Fin 8, ∑ r : Fin 512, f (row p r) = ∑ i, f i :=
  Fin.sum_mul_add_fin 8 512 f

/-! # The first call -/

/-- Which block of its array each window of the first call holds at a grid point. -/
theorem idx0 : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![0, t.val] := by decide +kernel

section First
variable (c : Dev nD) {adj : Fin 4096 → Fin 4096 → EReal} {x : Fin 4096 → Fin 128 → EReal} {w : Fin 128 → Fin 16 → EReal} {b : Fin 16 → EReal}
variable (h0 : ∀ i j, V c main_arg0 (ix2 i j) = adj i j) (h1 : ∀ i j, V c main_arg1 (ix2 i j) = x i j)
  (h2 : ∀ i j, V c main_arg2 (ix2 i j) = w i j) (h3 : ∀ j, V c main_v0 (ix2 0 j) = b j)
include h0 h1 h2 h3

/-- What point `t` stores, at a place in its block, against the array's row and column there. -/
theorem tile0 (t : Fin cfg0.N) (r : Fin 512) (k : Fin 16) (i : Fin 4096) (l : Fin 16) (hi : i.val = t.val * 512 + r.val) (hl : l.val = k.val) :
    k0_pay1 (blk0 V c 0 t) (blk0 V c 1 t) (blk0 V c 2 t) (blk0 V c 3 t) (ix2 r k) = dense (fun i l => ∑ j, adj i j * x j l) w b i l := by
  obtain rfl : l = k := Fin.ext hl
  obtain rfl : i = row t r := Fin.ext hi
  have e0 (j : Fin 4096) : blk0 V c 0 t (ix2 r j) = adj (row t r) j := by
    rw [← h0]; blk_ext [blk0, idx0 t, row]
  have e1 (i j) : blk0 V c 1 t (ix2 i j) = x i j := by
    rw [← h1]; blk_ext [blk0, idx0 t]
  have e2 (i j) : blk0 V c 2 t (ix2 i j) = w i j := by
    rw [← h2]; blk_ext [blk0, idx0 t]
  have e3 (j) : blk0 V c 3 t (ix2 0 j) = b j := by
    rw [← h3]; blk_ext [blk0, idx0 t]
  rw [first_apply]
  simp only [dense, e0, e1, e2, e3]

/-- The first call's first output is the first dense layer. -/
theorem out0_4 (i : Fin 4096) (k : Fin 16) :
    (dat0 V c).arrAt 4 cfg0.N (ix2 i k) = dense (fun i l => ∑ j, adj i j * x j l) w b i k := by
  have key : (dat0 V c).arrAt 4 cfg0.N = fun y : S4096x16.Idx => dense (fun i l => ∑ j, adj i j * x j l) w b (y 0) (y 1) := by
    refine (dat0 V c).arrAt_eq_of_covers 4 _ (by decide +kernel) fun t hf y => ?_
    have ht : ∀ (y : S512x16.Idx) i l (hi : i.val = t.val * 512 + (y 0).val) (hl : l.val = (y 1).val), k0_pay1 (blk0 V c 0 t) (blk0 V c 1 t) (blk0 V c 2 t) (blk0 V c 3 t) y
        = dense (fun i l => ∑ j, adj i j * x j l) w b i l := fun y i l hi hl => by
      rw [show y = ix2 (y 0) (y 1) by blk_ext []]
      exact tile0 V c h0 h1 h2 h3 t (y 0) (y 1) i l hi hl
    blk_simp [idx0 t]
    refine ht y _ _ ?_ ?_ <;> blk_simp [idx0 t]
  exact congrFun key (ix2 i k)

/-- Its second output is the transpose. -/
theorem out0_5 (i : Fin 4096) (k : Fin 16) :
    (dat0 V c).arrAt 5 cfg0.N (ix2 k i) = dense (fun i l => ∑ j, adj i j * x j l) w b i k := by
  have key : (dat0 V c).arrAt 5 cfg0.N = fun y : S16x4096.Idx => dense (fun i l => ∑ j, adj i j * x j l) w b (y 1) (y 0) := by
    refine (dat0 V c).arrAt_eq_of_covers 5 _ (by decide +kernel) fun t hf y => ?_
    have ht : ∀ (y : S16x512.Idx) i l (hi : i.val = t.val * 512 + (y 1).val) (hl : l.val = (y 0).val), k0_pay2 (blk0 V c 0 t) (blk0 V c 1 t) (blk0 V c 2 t) (blk0 V c 3 t) y
        = dense (fun i l => ∑ j, adj i j * x j l) w b i l := fun y i l hi hl => by
      rw [show y = ix2 (y 0) (y 1) by blk_ext []]
      exact (firstT_apply _ _ _ _ (y 1) (y 0)).trans (tile0 V c h0 h1 h2 h3 t (y 1) (y 0) i l hi hl)
    blk_simp [idx0 t]
    refine ht y _ _ ?_ ?_ <;> blk_simp [idx0 t]
  exact congrFun key (ix2 k i)

end First

/-! # An attention layer over a block of rows -/

section Layer
variable {adj : Fin 4096 → Fin 4096 → EReal} {h : Fin 4096 → Fin 16 → EReal} {a : Fin 4 → Fin 32 → EReal} {ab : Fin 4 → EReal}

/-- The heads of a block of rows are the layer's heads at those rows. -/
theorem heads_row (t : Fin 8) (x0 : Vec Ideal S512x4096 .f32) (x1 : Vec Ideal S4096x16 .f32) (x2 : Vec Ideal S512x16 .f32) (x3 : Vec Ideal S16x4096 .f32)
    (x4 : Vec Ideal S16x4 .f32) (x5 : Vec Ideal S4x16 .f32) (x6 : Vec Ideal S1x4 .f32)
    (e0 : ∀ r j, x0 (ix2 r j) = adj (row t r) j) (e1 : ∀ j k, x1 (ix2 j k) = h j k) (e2 : ∀ r k, x2 (ix2 r k) = h (row t r) k)
    (e3 : ∀ l j, x3 (ix2 l j) = h j l) (e4 : ∀ (l : Fin 16) (q : Fin 4), x4 (ix2 l q) = a q ⟨l.val, by omega⟩)
    (e5 : ∀ (q : Fin 4) (l : Fin 16), x5 (ix2 q l) = a q ⟨16 + l.val, by omega⟩) (e6 : ∀ q, x6 (ix2 0 q) = ab q)
    (q : Fin 4) (r : Fin 512) (k : Fin 16) : heads x0 x1 x2 x3 x4 x5 x6 q (ix2 r k) = attK lam slam adj h a ab q (row t r) k := by
  rw [heads_apply]
  simp only [e0, e1, e2, e3, e4, e5, e6]
  rfl

end Layer

/-! # The second call -/

/-- The blocks that the second call's windows hold at a grid point. -/
theorem idx1 : ∀ t : Fin cfg1.N, win1_0.index t = ![t.val, 0] ∧ win1_1.index t = ![0, 0] ∧ win1_2.index t = ![t.val, 0] ∧ win1_3.index t = ![0, 0]
    ∧ win1_4.index t = ![0, 0] ∧ win1_5.index t = ![0, 0] ∧ win1_6.index t = ![0, 0] ∧ win1_7.index t = ![0, 0] ∧ win1_8.index t = ![0, 0]
    ∧ win1_9.index t = ![t.val, 0] ∧ win1_10.index t = ![0, t.val] := by decide +kernel

section Second
variable (c : Dev nD) {adj : Fin 4096 → Fin 4096 → EReal} {h : Fin 4096 → Fin 16 → EReal} {a : Fin 4 → Fin 32 → EReal} {ab : Fin 4 → EReal}
  {w : Fin 64 → Fin 16 → EReal} {b : Fin 16 → EReal}
variable (h0 : ∀ i j, V c main_arg0 (ix2 i j) = adj i j) (h1 : ∀ i k, V c main_v1_0 (ix2 i k) = h i k)
  (h3 : ∀ k i, V c main_v1_1 (ix2 k i) = h i k)
  (h4 : ∀ (l : Fin 16) (q : Fin 4), V c main_v3 (ix2 l q) = a q ⟨l.val, by omega⟩)
  (h5 : ∀ (q : Fin 4) (l : Fin 16), V c main_v4 (ix2 q l) = a q ⟨16 + l.val, by omega⟩) (h6 : ∀ q, V c main_v5 (ix2 0 q) = ab q)
  (h7 : ∀ i j, V c main_arg6 (ix2 i j) = w i j) (h8 : ∀ j, V c main_v6 (ix2 0 j) = b j)
include h0 h1 h3 h4 h5 h6 h7 h8

/-- What point `t` stores, at a place in its block, against the array's row and column there. -/
theorem tile1 (t : Fin cfg1.N) (r : Fin 512) (k : Fin 16) (i : Fin 4096) (l : Fin 16) (hi : i.val = t.val * 512 + r.val) (hl : l.val = k.val) :
    layer1 (blk1 V c 0 t) (blk1 V c 1 t) (blk1 V c 2 t) (blk1 V c 3 t) (blk1 V c 4 t) (blk1 V c 5 t) (blk1 V c 6 t) (blk1 V c 7 t) (blk1 V c 8 t) (ix2 r k)
      = second (attK lam slam adj h a ab) w b i l := by
  obtain rfl : l = k := Fin.ext hl
  obtain rfl : i = row t r := Fin.ext hi
  have e7 (i j) : blk1 V c 7 t (ix2 i j) = w i j := by
    rw [← h7]; blk_ext [blk1, idx1 t]
  have e8 (j) : blk1 V c 8 t (ix2 0 j) = b j := by
    rw [← h8]; blk_ext [blk1, idx1 t]
  have eh := heads_row (adj := adj) (h := h) (a := a) (ab := ab) t (blk1 V c 0 t) (blk1 V c 1 t) (blk1 V c 2 t) (blk1 V c 3 t) (blk1 V c 4 t) (blk1 V c 5 t) (blk1 V c 6 t)
    (fun r j => by rw [← h0]; blk_ext [blk1, idx1 t, row]) (fun j k => by rw [← h1]; blk_ext [blk1, idx1 t])
    (fun r k => by rw [← h1]; blk_ext [blk1, idx1 t, row]) (fun l j => by rw [← h3]; blk_ext [blk1, idx1 t])
    (fun l q => by rw [← h4]; blk_ext [blk1, idx1 t]) (fun q l => by rw [← h5]; blk_ext [blk1, idx1 t])
    (fun q => by rw [← h6]; blk_ext [blk1, idx1 t])
  rw [layer1_eq, project_apply]
  simp only [second, dense, eh, e7, e8]

/-- The second call's first output is the second layer's input. -/
theorem out1_9 (i : Fin 4096) (k : Fin 16) : (dat1 V c).arrAt 9 cfg1.N (ix2 i k) = second (attK lam slam adj h a ab) w b i k := by
  have key : (dat1 V c).arrAt 9 cfg1.N = fun y : S4096x16.Idx => second (attK lam slam adj h a ab) w b (y 0) (y 1) := by
    refine (dat1 V c).arrAt_eq_of_covers 9 _ (by decide +kernel) fun t hf y => ?_
    have ht : ∀ (y : S512x16.Idx) i l (hi : i.val = t.val * 512 + (y 0).val) (hl : l.val = (y 1).val),
        layer1 (blk1 V c 0 t) (blk1 V c 1 t) (blk1 V c 2 t) (blk1 V c 3 t) (blk1 V c 4 t) (blk1 V c 5 t) (blk1 V c 6 t) (blk1 V c 7 t) (blk1 V c 8 t) y
        = second (attK lam slam adj h a ab) w b i l := fun y i l hi hl => by
      rw [show y = ix2 (y 0) (y 1) by blk_ext []]
      exact tile1 V c h0 h1 h3 h4 h5 h6 h7 h8 t (y 0) (y 1) i l hi hl
    blk_simp [idx1 t]
    refine ht y _ _ ?_ ?_ <;> blk_simp [idx1 t]
  exact congrFun key (ix2 i k)

/-- Its second output is the transpose. -/
theorem out1_10 (i : Fin 4096) (k : Fin 16) : (dat1 V c).arrAt 10 cfg1.N (ix2 k i) = second (attK lam slam adj h a ab) w b i k := by
  have key : (dat1 V c).arrAt 10 cfg1.N = fun y : S16x4096.Idx => second (attK lam slam adj h a ab) w b (y 1) (y 0) := by
    refine (dat1 V c).arrAt_eq_of_covers 10 _ (by decide +kernel) fun t hf y => ?_
    have ht : ∀ (y : S16x512.Idx) i l (hi : i.val = t.val * 512 + (y 1).val) (hl : l.val = (y 0).val),
        layer1T (blk1 V c 0 t) (blk1 V c 1 t) (blk1 V c 2 t) (blk1 V c 3 t) (blk1 V c 4 t) (blk1 V c 5 t) (blk1 V c 6 t) (blk1 V c 7 t) (blk1 V c 8 t) y
        = second (attK lam slam adj h a ab) w b i l := fun y i l hi hl => by
      rw [show y = ix2 (y 0) (y 1) by blk_ext []]
      exact (layer1T_apply _ _ _ _ _ _ _ _ _ (y 1) (y 0)).trans (tile1 V c h0 h1 h3 h4 h5 h6 h7 h8 t (y 1) (y 0) i l hi hl)
    blk_simp [idx1 t]
    refine ht y _ _ ?_ ?_ <;> blk_simp [idx1 t]
  exact congrFun key (ix2 k i)

end Second

/-! # The third call -/

/-- The blocks that the third call's windows hold at a grid point. -/
theorem idx2 : ∀ t : Fin cfg2.N, win2_0.index t = ![t.val, 0] ∧ win2_1.index t = ![0, 0] ∧ win2_2.index t = ![t.val, 0] ∧ win2_3.index t = ![0, 0]
    ∧ win2_4.index t = ![0, 0] ∧ win2_5.index t = ![0, 0] ∧ win2_6.index t = ![0, 0] ∧ win2_7.index t = ![0, 0] ∧ win2_8.index t = ![0, 0]
    ∧ win2_9.index t = ![0, 0] ∧ win2_10.index t = ![0, 0] := by decide +kernel

section Third
variable (c : Dev nD) {adj : Fin 4096 → Fin 4096 → EReal} {h : Fin 4096 → Fin 16 → EReal} {a : Fin 4 → Fin 32 → EReal} {ab : Fin 4 → EReal}
  {ow : Fin 16 → EReal} {ob inv : EReal}
variable (h0 : ∀ i j, V c main_arg0 (ix2 i j) = adj i j) (h1 : ∀ i k, V c main_v7_0 (ix2 i k) = h i k)
  (h3 : ∀ k i, V c main_v7_1 (ix2 k i) = h i k)
  (h4 : ∀ (l : Fin 16) (q : Fin 4), V c main_v9 (ix2 l q) = a q ⟨l.val, by omega⟩)
  (h5 : ∀ (q : Fin 4) (l : Fin 16), V c main_v10 (ix2 q l) = a q ⟨16 + l.val, by omega⟩) (h6 : ∀ q, V c main_v11 (ix2 0 q) = ab q)
include h0 h1 h3 h4 h5 h6

/-- What point `t` adds to the sums: the unit of the heads' mean, summed over the point's rows. -/
theorem part_apply (t : Fin cfg2.N) (k : Fin 16) :
    part V c t (ix2 0 k) = ∑ r : Fin 512, meaned (attK lam slam adj h a ab) (row t r) k := by
  have eh := heads_row (adj := adj) (h := h) (a := a) (ab := ab) t (blk2 V c 0 t) (blk2 V c 1 t) (blk2 V c 2 t) (blk2 V c 3 t) (blk2 V c 4 t) (blk2 V c 5 t) (blk2 V c 6 t)
    (fun r j => by rw [← h0]; blk_ext [blk2, idx2 t, row]) (fun j k => by rw [← h1]; blk_ext [blk2, idx2 t])
    (fun r k => by rw [← h1]; blk_ext [blk2, idx2 t, row]) (fun l j => by rw [← h3]; blk_ext [blk2, idx2 t])
    (fun l q => by rw [← h4]; blk_ext [blk2, idx2 t]) (fun q l => by rw [← h5]; blk_ext [blk2, idx2 t])
    (fun q => by rw [← h6]; blk_ext [blk2, idx2 t])
  rw [part, rowSums_eq, colSums_apply]
  simp only [meaned, eh]

/-- The sums after `n` points. -/
theorem sums_apply (k : Fin 16) (n : ℕ) (hn : n ≤ 8) :
    sums V c n (ix2 0 k) = ∑ p : Fin n, ∑ r : Fin 512, meaned (attK lam slam adj h a ab) (row (p.castLE hn) r) k := by
  induction n with
  | zero => rw [sums, zeros_apply]; rfl
  | succ n ih =>
    have hlt : n < cfg2.N := hn
    rw [sums, dif_pos hlt, add_apply, ih (by omega), part_apply V c h0 h1 h3 h4 h5 h6]
    exact (Fin.sum_univ_castSucc fun p : Fin (n + 1) => ∑ r : Fin 512, meaned (attK lam slam adj h a ab) (row (p.castLE hn) r) k).symm

/-- The third call's output: the network's result from the second layer's input. -/
theorem out2_10 (h7 : ∀ j, V c main_v12 (ix2 0 j) = ow j) (h8 : V c main_v13 (ix2 0 0) = ob) (h9 : V c main_v14 (ix2 0 0) = inv) :
    (dat2 V c).arrAt 10 cfg2.N (ix2 0 0) = pooled (attK lam slam adj h a ab) inv ow ob := by
  have key : (dat2 V c).arrAt 10 cfg2.N = fun _ : S1x1.Idx => pooled (attK lam slam adj h a ab) inv ow ob := by
    refine (dat2 V c).arrAt_eq_of_after_last 10 ⟨7, by decide⟩ (by decide +kernel) _ fun y => ?_
    have e7 (t j) : blk2 V c 7 t (ix2 0 j) = ow j := by
      rw [← h7]; blk_ext [blk2, idx2 t]
    have e8 (t) : blk2 V c 8 t (ix2 0 0) = ob := by
      rw [← h8]; blk_ext [blk2, idx2 t]
    have e9 (t) : blk2 V c 9 t (ix2 0 0) = inv := by
      rw [← h9]; blk_ext [blk2, idx2 t]
    have er (k : Fin 16) := sum_rows fun i => meaned (attK lam slam adj h a ab) i k
    have ht : ∀ y : S1x1.Idx, k2_pay2 (sums V c 8) (blk2 V c 9 ⟨7, by decide⟩) (blk2 V c 7 ⟨7, by decide⟩) (blk2 V c 8 ⟨7, by decide⟩) y
        = pooled (attK lam slam adj h a ab) inv ow ob := fun y => by
      rw [show y = ix2 0 0 by blk_ext [], last_apply]
      simp only [e7, e8, e9, sums_apply V c h0 h1 h3 h4 h5 h6 _ 8 le_rfl, Fin.castLE_rfl, id, er, pooled]
    blk_simp
    exact ht y
  exact congrFun key (ix2 0 0)

end Third

end Cert.KernelIdeal.Values

end
-- ==== Proof.Network.lean ====
/- The idealized kernel's result after a run, as one expression in the arguments. -/
module

public import proofs.«01_k».proof.Proof.Values

@[expose] public section

set_option maxRecDepth 16384

noncomputable section

namespace Cert.KernelIdeal.Values

open Cert.KernelIdeal Cert.KernelIdeal.Gen Cert.KernelIdeal.Steps Cert.KernelIdeal.Tiles Cert.Attention
open Idealize.ShloMosaic Idealize.ShloMosaic.TcCoe Idealize.ShloMosaic.Pointwise

/-! # The host operations around the calls -/

section Host
variable (U : Valuation τ sig (Elt Ideal))

/-- The first layer's bias as a row. -/
theorem host0_v0 (k : Fin 16) : StableHlo.after hostOps0 U (Proc.devRef .tc main_v0) (ix2 0 k) = U (Proc.devRef .tc main_arg3) (ix1 k) := by
  after_results
  pointwise

/-- The first attention layer's source halves, one column per head, -/
theorem host1_v3 (l : Fin 16) (q : Fin 4) :
    StableHlo.after hostOps1 U (Proc.devRef .tc main_v3) (ix2 l q) = U (Proc.devRef .tc main_arg4) (ix2 q ⟨l.val, by omega⟩) := by
  after_results
  pointwise

/-- its other halves, one row per head, -/
theorem host1_v4 (q : Fin 4) (l : Fin 16) :
    StableHlo.after hostOps1 U (Proc.devRef .tc main_v4) (ix2 q l) = U (Proc.devRef .tc main_arg4) (ix2 q ⟨16 + l.val, by omega⟩) := by
  after_results
  pointwise

/-- its biases, -/
theorem host1_v5 (q : Fin 4) : StableHlo.after hostOps1 U (Proc.devRef .tc main_v5) (ix2 0 q) = U (Proc.devRef .tc main_arg5) (ix1 q) := by
  after_results
  pointwise

/-- and the second dense layer's bias. -/
theorem host1_v6 (k : Fin 16) : StableHlo.after hostOps1 U (Proc.devRef .tc main_v6) (ix2 0 k) = U (Proc.devRef .tc main_arg7) (ix1 k) := by
  after_results
  pointwise

/-- The second attention layer's source halves, -/
theorem host2_v9 (l : Fin 16) (q : Fin 4) :
    StableHlo.after hostOps2 U (Proc.devRef .tc main_v9) (ix2 l q) = U (Proc.devRef .tc main_arg8) (ix2 q ⟨l.val, by omega⟩) := by
  after_results
  pointwise

/-- its other halves, -/
theorem host2_v10 (q : Fin 4) (l : Fin 16) :
    StableHlo.after hostOps2 U (Proc.devRef .tc main_v10) (ix2 q l) = U (Proc.devRef .tc main_arg8) (ix2 q ⟨16 + l.val, by omega⟩) := by
  after_results
  pointwise

/-- its biases, -/
theorem host2_v11 (q : Fin 4) : StableHlo.after hostOps2 U (Proc.devRef .tc main_v11) (ix2 0 q) = U (Proc.devRef .tc main_arg9) (ix1 q) := by
  after_results
  pointwise

/-- the output weights, -/
theorem host2_v12 (k : Fin 16) : StableHlo.after hostOps2 U (Proc.devRef .tc main_v12) (ix2 0 k) = U (Proc.devRef .tc main_arg10) (ix2 k 0) := by
  after_results
  pointwise

/-- the output bias, -/
theorem host2_v13 : StableHlo.after hostOps2 U (Proc.devRef .tc main_v13) (ix2 0 0) = U (Proc.devRef .tc main_arg11) (ix1 0) := by
  after_results
  pointwise

/-- and the factor that makes the rows' sum their mean. -/
theorem host2_v14 : StableHlo.after hostOps2 U (Proc.devRef .tc main_v14) (ix2 0 0) = Ideal.ofBits .f32 0x39800000#32 := by
  after_results
  pointwise

/-- The result is the third call's output. -/
theorem host3_v16 : StableHlo.after hostOps3 U (Proc.devRef .tc main_v16) = fun _ => U (Proc.devRef .tc main_v15) (ix2 0 0) := by
  after_results
  funext y
  pointwise

end Host

/-- The mean's factor is 1/4096. -/
theorem ofBits_inv : Ideal.ofBits .f32 0x39800000#32 = ((1 / 4096 : ℝ) : EReal) := by
  simp [Ideal.ofBits, Ideal.ieee, -EReal.coe_mul]; norm_num

/-! # The arrays from call to call -/

section Chain
variable (m : (ℓ : Loc nD τ sig) → Buf (Elt Ideal) ℓ) (c : Dev nD)

/-- Before the first call an argument is as launched; -/
theorem W1_args (a : Ref sig .tc) (h : a ∈ args) : W1 m c (Proc.devRef .tc a) = m ((c : Thread nD τ).loc a) :=
  W1_keep m c a (args_host a h).1

/-- and so it is after it, -/
theorem W2_args (a : Ref sig .tc) (h : a ∈ args) : W2 m c (Proc.devRef .tc a) = m ((c : Thread nD τ).loc a) :=
  (W2_keep m c a (args_in a h).1).trans (W1_args m c a h)

/-- and after the second. -/
theorem W4_args (a : Ref sig .tc) (h : a ∈ args) : W4 m c (Proc.devRef .tc a) = m ((c : Thread nD τ).loc a) :=
  (W4_keep m c a (args_in a h).2.1).trans (W3_args m c a h)

/-- The adjacency matrix by row and column; -/
def adjOf (i j : Fin 4096) : EReal := m ((c : Thread nD τ).loc main_arg0) (ix2 i j)
/-- the features; -/
def featsOf (i : Fin 4096) (l : Fin 128) : EReal := m ((c : Thread nD τ).loc main_arg1) (ix2 i l)
/-- the first dense layer's weights -/
def w1Of (l : Fin 128) (k : Fin 16) : EReal := m ((c : Thread nD τ).loc main_arg2) (ix2 l k)
/-- and biases; -/
def b1Of (k : Fin 16) : EReal := m ((c : Thread nD τ).loc main_arg3) (ix1 k)
/-- the first attention layer's vectors -/
def a1Of (q : Fin 4) (l : Fin 32) : EReal := m ((c : Thread nD τ).loc main_arg4) (ix2 q l)
/-- and biases; -/
def ab1Of (q : Fin 4) : EReal := m ((c : Thread nD τ).loc main_arg5) (ix1 q)
/-- the second dense layer's weights -/
def w2Of (l : Fin 64) (k : Fin 16) : EReal := m ((c : Thread nD τ).loc main_arg6) (ix2 l k)
/-- and biases; -/
def b2Of (k : Fin 16) : EReal := m ((c : Thread nD τ).loc main_arg7) (ix1 k)
/-- the second attention layer's vectors -/
def a2Of (q : Fin 4) (l : Fin 32) : EReal := m ((c : Thread nD τ).loc main_arg8) (ix2 q l)
/-- and biases; -/
def ab2Of (q : Fin 4) : EReal := m ((c : Thread nD τ).loc main_arg9) (ix1 q)
/-- the output layer's weights -/
def owOf (k : Fin 16) : EReal := m ((c : Thread nD τ).loc main_arg10) (ix2 k 0)
/-- and bias. -/
def obOf : EReal := m ((c : Thread nD τ).loc main_arg11) (ix1 0)

/-- The first dense layer's output. -/
def hidden1 : Fin 4096 → Fin 16 → EReal :=
  dense (fun i l => ∑ j, adjOf m c i j * featsOf m c j l) (w1Of m c) (b1Of m c)

/-- The second dense layer's output. -/
def hidden2 : Fin 4096 → Fin 16 → EReal :=
  second (attK lam slam (adjOf m c) (hidden1 m c) (a1Of m c) (ab1Of m c)) (w2Of m c) (b2Of m c)

/-- The first call leaves the first dense layer's output in its first array, -/
theorem W2_v1_0 (i : Fin 4096) (k : Fin 16) : W2 m c (Proc.devRef .tc main_v1_0) (ix2 i k) = hidden1 m c i k :=
  (congrFun (W2_arr m c 4) _).trans (out0_4 (atRefs (W1 m)) c (fun _ _ => congrFun (W1_args m c main_arg0 (by decide)) _) (fun _ _ => congrFun (W1_args m c main_arg1 (by decide)) _)
    (fun _ _ => congrFun (W1_args m c main_arg2 (by decide)) _) (fun k => host0_v0 (W0 m c) k) i k)

/-- and its transpose in the second. -/
theorem W2_v1_1 (i : Fin 4096) (k : Fin 16) : W2 m c (Proc.devRef .tc main_v1_1) (ix2 k i) = hidden1 m c i k :=
  (congrFun (W2_arr m c 5) _).trans (out0_5 (atRefs (W1 m)) c (fun _ _ => congrFun (W1_args m c main_arg0 (by decide)) _) (fun _ _ => congrFun (W1_args m c main_arg1 (by decide)) _)
    (fun _ _ => congrFun (W1_args m c main_arg2 (by decide)) _) (fun k => host0_v0 (W0 m c) k) i k)

/-- The second call leaves the second dense layer's output in its first array, -/
theorem W4_v7_0 (i : Fin 4096) (k : Fin 16) : W4 m c (Proc.devRef .tc main_v7_0) (ix2 i k) = hidden2 m c i k :=
  (congrFun (W4_arr m c 9) _).trans (out1_9 (atRefs (W3 m)) c (fun _ _ => congrFun (W3_args m c main_arg0 (by decide)) _)
    (fun i k => (congrFun (W3_keep m c main_v1_0 (by decide)) _).trans (W2_v1_0 m c i k))
    (fun k i => (congrFun (W3_keep m c main_v1_1 (by decide)) _).trans (W2_v1_1 m c i k))
    (fun l q => (host1_v3 (W2 m c) l q).trans (congrFun (W2_args m c main_arg4 (by decide)) _))
    (fun q l => (host1_v4 (W2 m c) q l).trans (congrFun (W2_args m c main_arg4 (by decide)) _))
    (fun q => (host1_v5 (W2 m c) q).trans (congrFun (W2_args m c main_arg5 (by decide)) _))
    (fun _ _ => congrFun (W3_args m c main_arg6 (by decide)) _)
    (fun k => (host1_v6 (W2 m c) k).trans (congrFun (W2_args m c main_arg7 (by decide)) _)) i k)

/-- and its transpose in the second. -/
theorem W4_v7_1 (i : Fin 4096) (k : Fin 16) : W4 m c (Proc.devRef .tc main_v7_1) (ix2 k i) = hidden2 m c i k :=
  (congrFun (W4_arr m c 10) _).trans (out1_10 (atRefs (W3 m)) c (fun _ _ => congrFun (W3_args m c main_arg0 (by decide)) _)
    (fun i k => (congrFun (W3_keep m c main_v1_0 (by decide)) _).trans (W2_v1_0 m c i k))
    (fun k i => (congrFun (W3_keep m c main_v1_1 (by decide)) _).trans (W2_v1_1 m c i k))
    (fun l q => (host1_v3 (W2 m c) l q).trans (congrFun (W2_args m c main_arg4 (by decide)) _))
    (fun q l => (host1_v4 (W2 m c) q l).trans (congrFun (W2_args m c main_arg4 (by decide)) _))
    (fun q => (host1_v5 (W2 m c) q).trans (congrFun (W2_args m c main_arg5 (by decide)) _))
    (fun _ _ => congrFun (W3_args m c main_arg6 (by decide)) _)
    (fun k => (host1_v6 (W2 m c) k).trans (congrFun (W2_args m c main_arg7 (by decide)) _)) i k)

/-- The third call leaves the read-out of the second attention layer's mean over the nodes. -/
theorem W6_v15 : W6 m c (Proc.devRef .tc main_v15) (ix2 0 0)
    = pooled (attK lam slam (adjOf m c) (hidden2 m c) (a2Of m c) (ab2Of m c)) ((1 / 4096 : ℝ) : EReal) (owOf m c) (obOf m c) :=
  (congrFun (W6_arr m c 10) _).trans (out2_10 (atRefs (W5 m)) c (fun _ _ => congrFun (W5_args m c main_arg0 (by decide)) _)
    (fun i k => (congrFun (W5_keep m c main_v7_0 (by decide)) _).trans (W4_v7_0 m c i k))
    (fun k i => (congrFun (W5_keep m c main_v7_1 (by decide)) _).trans (W4_v7_1 m c i k))
    (fun l q => (host2_v9 (W4 m c) l q).trans (congrFun (W4_args m c main_arg8 (by decide)) _))
    (fun q l => (host2_v10 (W4 m c) q l).trans (congrFun (W4_args m c main_arg8 (by decide)) _))
    (fun q => (host2_v11 (W4 m c) q).trans (congrFun (W4_args m c main_arg9 (by decide)) _))
    (fun k => (host2_v12 (W4 m c) k).trans (congrFun (W4_args m c main_arg10 (by decide)) _))
    ((host2_v13 (W4 m c)).trans (congrFun (W4_args m c main_arg11 (by decide)) _))
    ((host2_v14 (W4 m c)).trans ofBits_inv))

/-- The kernel's result after a run. -/
theorem W7_v16 : W7 m c (Proc.devRef .tc main_v16)
    = fun _ => pooled (attK lam slam (adjOf m c) (hidden2 m c) (a2Of m c) (ab2Of m c)) ((1 / 4096 : ℝ) : EReal) (owOf m c) (obOf m c) :=
  (host3_v16 (W6 m c)).trans (funext fun _ => W6_v15 m c)

end Chain

end Cert.KernelIdeal.Values

end
-- ==== Proof.Reference.lean ====
/- The idealized reference's result, as one expression in the arguments. -/
module

public import proofs.«01_k».proof.Proof.Gen.ReferenceIdeal.Read
public import proofs.«01_k».proof.Proof.Model
public import proofs.«01_k».proof.Proof.Tiles
public import Idealize.ShloMosaic.Lib.Pointwise
public import Idealize.ShloMosaic.Lib.IndicatorCount

@[expose] public section

set_option maxRecDepth 16384

noncomputable section

namespace Cert.ReferenceIdeal.Values

open Cert.ReferenceIdeal Cert.ReferenceIdeal.Gen Cert.ReferenceIdeal.Read Cert.Attention
open Cert.KernelIdeal.Tiles (ofBits_bot ofBits_quarter ofBits_one)
open Idealize.ShloMosaic Idealize.ShloMosaic.TcCoe Idealize.ShloMosaic.Pointwise

section Head
variable (adj : FVec Ideal S4096x4096 .f32) (h : FVec Ideal S4096x16 .f32) (a : FVec Ideal S4x32 .f32) (ab : FVec Ideal S4 .f32) (q : Fin 4)

/-- Which entries of the adjacency matrix are one. -/
def linked : S4096x4096.Idx → BitVec 1 :=
  cmpf .oeq adj (broadcastInDim S4096x4096 ![] bcast_S_S4096x4096 (constant S_ .f32 0x3F800000#32))

/-- A head's logits before the unit. -/
def logits : FVec Ideal S4096x4096 .f32 :=
  addf (addf
    (broadcastInDim S4096x4096 ![0, 1] bcast_S4096x1_S4096x4096_0_1 (broadcastInDim S4096x1 ![0] bcast_S4096_S4096x1_0
      (Host.dotGeneral dot_S4096x16_S16_S4096_1_0_0_n_n_n none h
        (shapeCast S16 (extractStridedSlice S1x16 ![q.val, 0] a (by revert q; decide)) shapeCasts_S1x16_S16))))
    (broadcastInDim S4096x4096 ![0, 1] bcast_S1x4096_S4096x4096_0_1 (broadcastInDim S1x4096 ![1] bcast_S4096_S1x4096_1
      (Host.dotGeneral dot_S4096x16_S16_S4096_1_0_0_n_n_n none h
        (shapeCast S16 (extractStridedSlice S1x16 ![q.val, 16] a (by revert q; decide)) shapeCasts_S1x16_S16)))))
    (broadcastInDim S4096x4096 ![] bcast_S_S4096x4096 (shapeCast S_ (extractStridedSlice S1 ![q.val] ab (by revert q; decide)) shapeCasts_S1_S_))

/-- A head's logit of a pair of nodes: the row's score, the column's score and the head's bias. -/
theorem logits_apply (i j : Fin 4096) : logits h a ab q (ix2 i j)
    = (∑ l : Fin 16, h (ix2 i l) * a (ix2 q ⟨l.val, by omega⟩) + ∑ l : Fin 16, h (ix2 j l) * a (ix2 q ⟨16 + l.val, by omega⟩)) + ab (ix1 q) := by
  pointwise [logits]

/-- The head's logits through the unit, with every entry of no link set to one low value. -/
def masked : FVec Ideal S4096x4096 .f32 :=
  select (linked adj)
    (select (cmpf .ogt (logits h a ab q) (broadcastInDim S4096x4096 ![] bcast_S_S4096x4096 (constant S_ .f32 0x00000000#32))) (logits h a ab q)
      (mulf (broadcastInDim S4096x4096 ![] bcast_S_S4096x4096 (constant S_ .f32 0x3C23D70A#32)) (logits h a ab q)))
    (broadcastInDim S4096x4096 ![] bcast_S_S4096x4096 (constant S_ .f32 0xF149F2CA#32))

/-- Each row's exponentials, shifted by the row's maximum and zero where there is no link. -/
def weights (e : FVec Ideal S4096x4096 .f32) : FVec Ideal S4096x4096 .f32 :=
  select (linked adj)
    (Host.exp (subf e (broadcastInDim S4096x4096 ![0, 1] bcast_S4096x1_S4096x4096_0_1 (broadcastInDim S4096x1 ![0] bcast_S4096_S4096x1_0
      (Host.reduce FloatOps.maximumf e (constant S_ .f32 0xFF800000#32) reducesTo_S4096x4096_S4096_d1 h_S_)))))
    (broadcastInDim S4096x4096 ![] bcast_S_S4096x4096 (constant S_ .f32 0x00000000#32))

/-- Each row's sum of weights, or one where it is not positive. -/
def totals (w : FVec Ideal S4096x4096 .f32) : FVec Ideal S4096x1 .f32 :=
  select (cmpf .ogt (broadcastInDim S4096x1 ![0] bcast_S4096_S4096x1_0 (Host.reduceAdd w (constant S_ .f32 0x00000000#32) reducesTo_S4096x4096_S4096_d1 h_S_))
      (broadcastInDim S4096x1 ![] bcast_S_S4096x1 (constant S_ .f32 0x00000000#32)))
    (broadcastInDim S4096x1 ![0] bcast_S4096_S4096x1_0 (Host.reduceAdd w (constant S_ .f32 0x00000000#32) reducesTo_S4096x4096_S4096_d1 h_S_))
    (broadcastInDim S4096x1 ![] bcast_S_S4096x1 (constant S_ .f32 0x3F800000#32))

/-- Which rows have a link. -/
def anyLink : S4096x1.Idx → BitVec 1 :=
  cmpi .sgt (broadcastInDim S4096x1 ![0] bcast_S4096_S4096x1_0 (Host.reduce IntOp.addi (extui 32 (linked adj) natLt_1_32) (constantI S_ 32 0#32) reducesTo_S4096x4096_S4096_d1 h_S_))
    (broadcastInDim S4096x1 ![] bcast_S_S4096x1 (constantI S_ 32 0#32))

/-- A head: each row plus the weighted mean of the rows linked to it, where there is one. -/
def head (w : FVec Ideal S4096x4096 .f32) : FVec Ideal S4096x16 .f32 :=
  select (broadcastInDim S4096x16 ![0, 1] bcast_S4096x1_S4096x16_0_1 (anyLink adj))
    (addf h (Host.dotGeneral dot_S4096x4096_S4096x16_S4096x16_1_0_0_1_n_n none
      (Host.divf w (broadcastInDim S4096x4096 ![0, 1] bcast_S4096x1_S4096x4096_0_1 (totals w))) h)) h

/-- The masked logits at an entry. -/
theorem masked_apply (i j : Fin 4096) : masked adj h a ab q (ix2 i j)
    = if adj (ix2 i j) = 1 then leaky (Ideal.ofBits .f32 0x3C23D70A#32) (logits h a ab q (ix2 i j)) else Ideal.ofBits .f32 0xF149F2CA#32 := by
  pointwise [masked, linked]
  rfl

/-- The weights at an entry. -/
theorem weights_apply (e : FVec Ideal S4096x4096 .f32) (i j : Fin 4096) : weights adj e (ix2 i j)
    = if adj (ix2 i j) = 1 then Ideal.exp (e (ix2 i j) - Finset.univ.fold max ⊥ fun k => e (ix2 i k)) else 0 := by
  pointwise [weights, linked]
  rw [ofBits_bot]

/-- The totals at a row. -/
theorem totals_apply (w : FVec Ideal S4096x4096 .f32) (i : Fin 4096) : totals w (ix2 i 0)
    = if 0 < ∑ j, w (ix2 i j) then ∑ j, w (ix2 i j) else 1 := by
  pointwise [totals]

/-- A count of at most 4096 is positive as a 32-bit word exactly when it is positive. -/
theorem count_pos (n : ℕ) (hn : n ≤ 4096) : IntOp.cmpi .sgt (BitVec.ofNat 32 n) 0#32 = if 0 < n then 1#1 else 0#1 := by
  have h1 : (BitVec.ofNat 32 n).toInt = n := by
    rw [BitVec.toInt_ofNat', Int.bmod_def]
    split <;> omega
  unfold IntOp.cmpi
  by_cases h : 0 < n
  · simp [h, BitVec.slt, h1]
  · simp [h, BitVec.slt, h1]

/-- A row has a link exactly when some entry of it is one. -/
theorem anyLink_apply (i : Fin 4096) : anyLink adj (ix2 i 0) = if ∃ j, adj (ix2 i j) = 1 then 1#1 else 0#1 := by
  pointwise [anyLink, linked]
  rw [IndicatorCount.fold_addi_setWidth_eq_card, count_pos _ ((Finset.card_le_univ _).trans (by simp))]
  refine if_congr ?_ rfl rfl
  rw [Finset.card_pos]
  constructor
  · rintro ⟨j, hj⟩
    refine ⟨j, ?_⟩
    by_contra hne
    simp [hne] at hj
  · rintro ⟨j, hj⟩
    exact ⟨j, by simp [hj]⟩

/-- A head at a row and a column. -/
theorem head_apply (w : FVec Ideal S4096x4096 .f32) (i : Fin 4096) (k : Fin 16) : head adj h w (ix2 i k)
    = if ∃ j, adj (ix2 i j) = 1 then h (ix2 i k) + ∑ j, Ideal.div (w (ix2 i j)) (totals w (ix2 i 0)) * h (ix2 j k) else h (ix2 i k) := by
  pointwise [head]
  rw [anyLink_apply]
  split <;> rfl

/-- A whole layer's head `q`. -/
def layerHead : FVec Ideal S4096x16 .f32 := head adj h (weights adj (masked adj h a ab q))

/-- The layer's head at a row and a column, as the model has it. -/
theorem layerHead_apply (i : Fin 4096) (k : Fin 16) : layerHead adj h a ab q (ix2 i k)
    = attR (Ideal.ofBits .f32 0x3C23D70A#32) (Ideal.ofBits .f32 0xF149F2CA#32) (fun i j => adj (ix2 i j)) (fun i l => h (ix2 i l))
        (fun q l => a (ix2 q l)) (fun q => ab (ix1 q)) q i k := by
  have hw (j : Fin 4096) : weights adj (masked adj h a ab q) (ix2 i j)
      = weightR (Ideal.ofBits .f32 0xF149F2CA#32) (fun j => leaky (Ideal.ofBits .f32 0x3C23D70A#32) (logits h a ab q (ix2 i j)))
          (fun j => adj (ix2 i j)) j := by
    rw [weights_apply]
    simp only [masked_apply, weightR]
  rw [layerHead, head_apply]
  simp only [totals_apply, hw]
  simp only [logits_apply, attR, headR]

end Head

/-! # The whole reference -/

section Network
variable (x0 : FVec Ideal S4096x4096 .f32) (x1 : FVec Ideal S4096x128 .f32) (x2 : FVec Ideal S128x16 .f32) (x3 : FVec Ideal S16 .f32)
  (x4 : FVec Ideal S4x32 .f32) (x5 : FVec Ideal S4 .f32) (x6 : FVec Ideal S64x16 .f32) (x7 : FVec Ideal S16 .f32)
  (x8 : FVec Ideal S4x32 .f32) (x9 : FVec Ideal S4 .f32) (x10 : FVec Ideal S16x1 .f32) (x11 : FVec Ideal S1 .f32)

/-- The second dense layer over four heads: the heads side by side through the unit, times the weights, plus the bias. -/
def secondOf (v : Fin 4 → FVec Ideal S4096x16 .f32) : FVec Ideal S4096x16 .f32 :=
  let z : FVec Ideal S4096x64 .f32 := concatenate S4096x64 1 [⟨S4096x16, v 0⟩, ⟨S4096x16, v 1⟩, ⟨S4096x16, v 2⟩, ⟨S4096x16, v 3⟩]
    concatenates_S4096x16_S4096x16_S4096x16_S4096x16_S4096x64_d1
  addf (Host.dotGeneral dot_S4096x64_S64x16_S4096x16_1_0_0_1_n_n none
      (select (cmpf .ogt z (broadcastInDim S4096x64 ![] bcast_S_S4096x64 (constant S_ .f32 0x00000000#32))) z (Host.expm1 z)) x6)
    (broadcastInDim S4096x16 ![0, 1] bcast_S1x16_S4096x16_0_1 (broadcastInDim S1x16 ![1] bcast_S16_S1x16_1 x7))

/-- The readout over four heads: their mean through the unit, the mean of that over the rows, times the weights, plus the bias. -/
def pooledOf (v : Fin 4 → FVec Ideal S4096x16 .f32) : FVec Ideal S1 .f32 :=
  let z : FVec Ideal S4096x16 .f32 := Host.divf
    (addf (addf (addf (addf (broadcastInDim S4096x16 ![] bcast_S_S4096x16 (constant S_ .f32 0x00000000#32)) (v 0)) (v 1)) (v 2)) (v 3))
    (broadcastInDim S4096x16 ![] bcast_S_S4096x16 (constant S_ .f32 0x40800000#32))
  addf (Host.dotGeneral dot_S16_S16x1_S1_0_0_n_1_n_n none
      (Host.divf (Host.reduceAdd
          (select (cmpf .ogt z (broadcastInDim S4096x16 ![] bcast_S_S4096x16 (constant S_ .f32 0x00000000#32))) z (Host.expm1 z))
          (constant S_ .f32 0x00000000#32) reducesTo_S4096x16_S16_d0 h_S_)
        (broadcastInDim S16 ![] bcast_S_S16 (constant S_ .f32 0x45800000#32))) x10) x11

/-- The second layer's input, from the first layer's heads. -/
theorem v177_eq : val_main_v177 (F := Ideal) x0 x1 x2 x3 x4 x5 x6 x7 = secondOf x6 x7 (layerHead x0 (val_main_v4 (F := Ideal) x0 x1 x2 x3) x4 x5) := rfl

/-- The result, from the second layer's heads. -/
theorem v357_eq : val_main_v357 (F := Ideal) x0 x1 x2 x3 x4 x5 x6 x7 x8 x9 x10 x11
    = pooledOf x10 x11 (layerHead x0 (val_main_v177 (F := Ideal) x0 x1 x2 x3 x4 x5 x6 x7) x8 x9) := rfl

/-- The first dense layer at a row and a column. -/
theorem v4_apply (i : Fin 4096) (k : Fin 16) : val_main_v4 (F := Ideal) x0 x1 x2 x3 (ix2 i k)
    = dense (fun i l => ∑ j : Fin 4096, x0 (ix2 i j) * x1 (ix2 j l)) (fun l k => x2 (ix2 l k)) (fun k => x3 (ix1 k)) i k := by
  pointwise [val_main_v4, val_main_v3, val_main_v2, val_main_v1, val_main_v0]
  rfl

/-- The second at a row and a column. -/
theorem secondOf_apply (v : Fin 4 → FVec Ideal S4096x16 .f32) (i : Fin 4096) (k : Fin 16) : secondOf x6 x7 v (ix2 i k)
    = second (fun q i l => v q (ix2 i l)) (fun l k => x6 (ix2 l k)) (fun k => x7 (ix1 k)) i k := by
  pointwise [secondOf]
  rfl

/-- The literal four, -/
theorem ofBits_four : Ideal.ofBits .f32 0x40800000#32 = ((4 : ℝ) : EReal) := by
  simp [Ideal.ofBits, Ideal.ieee, -EReal.coe_mul]; norm_num

/-- the number of rows, -/
theorem ofBits_rows : Ideal.ofBits .f32 0x45800000#32 = ((4096 : ℝ) : EReal) := by
  simp [Ideal.ofBits, Ideal.ieee, -EReal.coe_mul]; norm_num

/-- the slope, -/
theorem ofBits_slope : Ideal.ofBits .f32 0x3C23D70A#32 = ((5368709 / 536870912 : ℝ) : EReal) := by
  simp [Ideal.ofBits, Ideal.ieee, -EReal.coe_mul]; norm_num

/-- and the low value, which is real. -/
theorem ofBits_low : IsReal (Ideal.ofBits .f32 0xF149F2CA#32) := by
  simp only [IsReal]
  simp [Ideal.ofBits, Ideal.ieee, -EReal.coe_mul]
  exact ⟨_, (EReal.coe_neg _).symm⟩

/-- The readout. -/
theorem pooledOf_apply (v : Fin 4 → FVec Ideal S4096x16 .f32) : pooledOf x10 x11 v (ix1 0)
    = pooled (fun q i l => v q (ix2 i l)) ((1 / 4096 : ℝ) : EReal) (fun k => x10 (ix2 k 0)) (x11 (ix1 0)) := by
  pointwise [pooledOf]
  rw [ofBits_four, ofBits_rows]
  simp only [Ideal.div_coe (by norm_num : (4 : ℝ) ≠ 0), Ideal.div_coe (by norm_num : (4096 : ℝ) ≠ 0)]
  rfl

/-- The reference's result, in the model's terms. -/
theorem v357_apply : val_main_v357 (F := Ideal) x0 x1 x2 x3 x4 x5 x6 x7 x8 x9 x10 x11 (ix1 0)
    = pooled (attR (Ideal.ofBits .f32 0x3C23D70A#32) (Ideal.ofBits .f32 0xF149F2CA#32) (fun i j => x0 (ix2 i j))
        (second (attR (Ideal.ofBits .f32 0x3C23D70A#32) (Ideal.ofBits .f32 0xF149F2CA#32) (fun i j => x0 (ix2 i j))
            (dense (fun i l => ∑ j : Fin 4096, x0 (ix2 i j) * x1 (ix2 j l)) (fun l k => x2 (ix2 l k)) (fun k => x3 (ix1 k)))
            (fun q l => x4 (ix2 q l)) (fun q => x5 (ix1 q)))
          (fun l k => x6 (ix2 l k)) (fun k => x7 (ix1 k)))
        (fun q l => x8 (ix2 q l)) (fun q => x9 (ix1 q)))
      ((1 / 4096 : ℝ) : EReal) (fun k => x10 (ix2 k 0)) (x11 (ix1 0)) := by
  rw [v357_eq, pooledOf_apply]
  simp only [layerHead_apply, v177_eq, secondOf_apply, v4_apply]

end Network

end Cert.ReferenceIdeal.Values

end
-- ==== Proof.Precondition.lean ====
/- What the precondition says of the arguments, entry by entry. -/
module

public import proofs.«01_k».proof.Pre_graph
public import proofs.«01_k».proof.Proof.Model
public import Idealize.ShloMosaic.Lib.Pointwise
public import Idealize.ShloMosaic.Lib.ReduceAll

@[expose] public section

noncomputable section

namespace Cert.Precondition

open Cert.Pre_graph Cert.Attention
open Idealize.ShloMosaic Idealize.ShloMosaic.TcCoe Idealize.ShloMosaic.Pointwise

/-- An entry whose absolute value is below infinity is a real. -/
theorem real_of_abs_lt {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) : IsReal (x i) := by
  have ht : Ideal.ofBits .f32 0x7F800000#32 = (⊤ : EReal) := by
    simp [Ideal.ofBits, Ideal.ieee, -EReal.coe_mul]
  pointwise at h
  rw [ht, show FloatOps.absf (x i) = max (x i) (-(x i)) from rfl] at h
  have hlt : max (x i) (-(x i)) < (⊤ : EReal) := by
    by_contra hn
    simp [hn] at h
  have h1 : x i ≠ (⊤ : EReal) := fun e => by simp [e] at hlt
  have h2 : x i ≠ (⊥ : EReal) := fun e => by simp [e] at hlt
  exact ⟨EReal.toReal (x i), (EReal.coe_toReal h1 h2).symm⟩

variable [Facts]

/-- The precondition, read: links are zeros and ones, and the features and both layers' weights are real. -/
theorem of_graph (x0 : FVec Ideal S4096x4096 .f32) (x1 : FVec Ideal S4096x128 .f32) (x2 : FVec Ideal S128x16 .f32) (x3 : FVec Ideal S16 .f32)
    (x4 : FVec Ideal S4x32 .f32) (x5 : FVec Ideal S4 .f32) (x6 : FVec Ideal S64x16 .f32) (x7 : FVec Ideal S16 .f32)
    (x8 : FVec Ideal S4x32 .f32) (x9 : FVec Ideal S4 .f32) (x10 : FVec Ideal S16x1 .f32) (x11 : FVec Ideal S1 .f32)
    (h : fn (F := Ideal) x0 x1 x2 x3 x4 x5 x6 x7 x8 x9 x10 x11 = fun _ => 1#1) :
    (∀ i, x0 i = 0 ∨ x0 i = 1) ∧ (∀ i, IsReal (x1 i)) ∧ (∀ i, IsReal (x2 i)) ∧ (∀ i, IsReal (x4 i)) ∧ (∀ i, IsReal (x6 i)) ∧ ∀ i, IsReal (x8 i) := by
  have : Subsingleton S_.Idx := ⟨fun a b => funext fun k => k.elim0⟩
  have h0 := congrFun h ix0
  dsimp only [fn, fn_part1] at h0
  obtain ⟨hA, h0⟩ := IntOp.andi_eq_one.1 h0
  obtain ⟨h0, h8⟩ := IntOp.andi_eq_one.1 h0
  obtain ⟨h0, h6⟩ := IntOp.andi_eq_one.1 h0
  obtain ⟨h0, h4⟩ := IntOp.andi_eq_one.1 h0
  obtain ⟨h1, h2⟩ := IntOp.andi_eq_one.1 h0
  refine ⟨fun i => ?_, fun i => real_of_abs_lt _ x1 i (Host.reduce_andi_all _ _ _ _ _ h1 i), fun i => real_of_abs_lt _ x2 i (Host.reduce_andi_all _ _ _ _ _ h2 i),
    fun i => real_of_abs_lt _ x4 i (Host.reduce_andi_all _ _ _ _ _ h4 i), fun i => real_of_abs_lt _ x6 i (Host.reduce_andi_all _ _ _ _ _ h6 i),
    fun i => real_of_abs_lt _ x8 i (Host.reduce_andi_all _ _ _ _ _ h8 i)⟩
  replace hA := Host.reduce_andi_all _ _ _ _ _ hA i
  clear h1 h2 h4 h6 h8 h0 h this
  pointwise at hA
  by_contra hn
  obtain ⟨n0, n1⟩ := not_or.1 hn
  simp [n0, n1, IntOp.ori] at hA

end Cert.Precondition

end
-- ==== Proof.lean ====
/- The proof of the claims. Every piece is proved in a module of its own; here they are put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Gen.Own.RunIdeal
public import proofs.«01_k».proof.Proof.Gen.Pre_graph
public import proofs.«01_k».proof.Proof.Network
public import proofs.«01_k».proof.Proof.Reference
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.ShloMosaic.Pointwise Idealize.SL.Sem

/-- The kernel as written, in machine arithmetic, runs, keeps its arguments and leaves every semaphore at zero. -/
theorem frameKernel : Cert.quiescent_Kernel := fun m g _ => Cert.Kernel.Steps.frame m g

/-- The same kernel over the extended reals, its two constants exact. -/
theorem frameKernelIdeal : Cert.quiescent_KernelIdeal := fun m g _ => Cert.KernelIdeal.Steps.frame m g

/-- The reference over the extended reals: it has no semaphore. -/
theorem frameReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two named constants stand for the reals whose nearest floats the kernel writes. -/
theorem preserved : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "slope_log2e" .f32 0x3C6C5F04#32 (((5368709 / 536870912) * (Real.log 2)⁻¹ : ℝ) : EReal) rfl⟩

section
attribute [local instance] Cert.Pre_graph.Gen.facts

/-- The two results agree wherever the precondition holds, from equal arguments. -/
theorem results_agree (m : (ℓ : Loc Cert.KernelIdeal.nD Cert.KernelIdeal.τ Cert.KernelIdeal.sig) → Buf (Elt Ideal) ℓ)
    (h : Cert.Pre_KernelIdeal_graph m) (c : Dev Cert.KernelIdeal.nD) :
    Cert.ReferenceIdeal.Read.val_main_v357 (F := Ideal)
      (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7))
      (m ((c.tc : Thread _ _).loc Cert.KernelIdeal.main_arg8)) (m ((c.tc : Thread _ _).loc Cert.KernelIdeal.main_arg9))
      (m ((c.tc : Thread _ _).loc Cert.KernelIdeal.main_arg10)) (m ((c.tc : Thread _ _).loc Cert.KernelIdeal.main_arg11))
    = Cert.KernelIdeal.Steps.W7 m c (Proc.devRef .tc Cert.KernelIdeal.main_v16) := by
  obtain ⟨hA, hX, hw1, ha1, hw2, ha2⟩ := Cert.Precondition.of_graph _ _ _ _ _ _ _ _ _ _ _ _ (h c)
  obtain ⟨big, hbig⟩ := Cert.ReferenceIdeal.Values.ofBits_low
  rw [Cert.KernelIdeal.Values.W7_v16]
  funext y
  obtain rfl : y = ix1 0 := by blk_ext []
  rw [Cert.ReferenceIdeal.Values.v357_apply, Cert.ReferenceIdeal.Values.ofBits_slope, hbig]
  exact (Cert.Attention.network_agree (5368709 / 536870912) big (by norm_num) (by norm_num) (Cert.KernelIdeal.Values.adjOf m c) (fun i j => hA _)
    (Cert.KernelIdeal.Values.featsOf m c) (fun i l => hX _) (Cert.KernelIdeal.Values.w1Of m c) (fun l k => hw1 _) (Cert.KernelIdeal.Values.b1Of m c)
    (Cert.KernelIdeal.Values.a1Of m c) (fun q l => ha1 _) (Cert.KernelIdeal.Values.ab1Of m c)
    (Cert.KernelIdeal.Values.w2Of m c) (fun l k => hw2 _) (Cert.KernelIdeal.Values.b2Of m c)
    (Cert.KernelIdeal.Values.a2Of m c) (fun q l => ha2 _) (Cert.KernelIdeal.Values.ab2Of m c)
    ((1 / 4096 : ℝ) : EReal) (Cert.KernelIdeal.Values.owOf m c) (Cert.KernelIdeal.Values.obOf m c)).symm

/-- The idealized kernel and the idealized reference end with the same result from the same arguments. -/
theorem algebraic : Cert.algebraic_KernelIdeal_ReferenceIdeal_pre_graph := by
  intro m g m' g' hpre hagree
  refine ⟨fun c => Cert.KernelIdeal.Steps.W7 m c (Proc.devRef .tc Cert.KernelIdeal.main_v16), ?_, ?_⟩
  · refine Cert.KernelIdeal.Steps.run_ends m g _ fun r hr _ c => ?_
    have h : ∀ a ∈ Cert.KernelIdeal.Steps.args, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a ha hs => (hr c _ (Cert.KernelIdeal.Steps.mem_own a hs)).trans (Cert.KernelIdeal.Steps.W7_args m c a ha)
    exact ⟨hr c _ (Cert.KernelIdeal.Steps.mem_own _ (by decide)),
      h Cert.KernelIdeal.main_arg0 (by decide) (by decide), h Cert.KernelIdeal.main_arg1 (by decide) (by decide),
      h Cert.KernelIdeal.main_arg2 (by decide) (by decide), h Cert.KernelIdeal.main_arg3 (by decide) (by decide),
      h Cert.KernelIdeal.main_arg4 (by decide) (by decide), h Cert.KernelIdeal.main_arg5 (by decide) (by decide),
      h Cert.KernelIdeal.main_arg6 (by decide) (by decide), h Cert.KernelIdeal.main_arg7 (by decide) (by decide),
      h Cert.KernelIdeal.main_arg8 (by decide) (by decide), h Cert.KernelIdeal.main_arg9 (by decide) (by decide),
      h Cert.KernelIdeal.main_arg10 (by decide) (by decide), h Cert.KernelIdeal.main_arg11 (by decide) (by decide)⟩
  · refine (θ_run Cert.ReferenceIdeal.defs _ _).mono (fun r h c => ⟨?_, (h c).2⟩) (Cert.ReferenceIdeal.Value.run (F := Ideal) m' g')
    refine ((h c).1.trans (Cert.ReferenceIdeal.Read.val_main_v357_eq (StableHlo.launchContents m' c))).trans ?_
    obtain ⟨e0, e1, e2, e3, e4, e5, e6, e7, e8, e9, e10, e11⟩ := hagree c
    simp only [StableHlo.launchContents_devRef, e0, e1, e2, e3, e4, e5, e6, e7, e8, e9, e10, e11]
    exact results_agree m hpre c

end

/-- All the claims together. -/
theorem claim : Cert.Claim := ⟨Cert.Kernel.Gen.facts, Cert.KernelIdeal.Gen.facts, Cert.ReferenceIdeal.Gen.facts, Cert.Pre_graph.Gen.facts,
  frameKernel, frameKernelIdeal, fun m g _ => frameKernelIdeal m g trivial, frameReferenceIdeal, fun m g _ => frameReferenceIdeal m g trivial, preserved, algebraic⟩

end Cert.Proof

end
